-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_activations_in_range [hPre_activations_in_range : Cert.Pre_activations_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_activations_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_activations_in_range [hPre_activations_in_range : Cert.Pre_activations_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_activations_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_activations_in_range [hKernelIdeal : Cert.KernelIdeal.Facts] [hPre_activations_in_range : Cert.Pre_activations_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_activations_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_activations_in_range [hReferenceIdeal : Cert.ReferenceIdeal.Facts] [hPre_activations_in_range : Cert.Pre_activations_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_activations_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_activations_in_range [hKernelIdeal : Cert.KernelIdeal.Facts] [hReferenceIdeal : Cert.ReferenceIdeal.Facts] [hPre_activations_in_range : Cert.Pre_activations_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_activations_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_activations_in_range : Cert.Pre_activations_in_range.Facts),
    quiescent_Kernel (hKernel := hKernel)
    ∧ quiescent_KernelIdeal (hKernelIdeal := hKernelIdeal)
    ∧ quiescent_KernelIdeal_pre_activations_in_range (hKernelIdeal := hKernelIdeal) (hPre_activations_in_range := hPre_activations_in_range)
    ∧ quiescent_ReferenceIdeal (hReferenceIdeal := hReferenceIdeal)
    ∧ quiescent_ReferenceIdeal_pre_activations_in_range (hReferenceIdeal := hReferenceIdeal) (hPre_activations_in_range := hPre_activations_in_range)
    ∧ preserves_Kernel_KernelIdeal
    ∧ algebraic_KernelIdeal_ReferenceIdeal_pre_activations_in_range (hKernelIdeal := hKernelIdeal) (hReferenceIdeal := hReferenceIdeal) (hPre_activations_in_range := hPre_activations_in_range)
-- ==== Pre_activations_in_range.lean ====
abbrev S96x1x4096 : Shape := ⟨3, ![96, 1, 4096]⟩
abbrev S14336x4096 : Shape := ⟨2, ![14336, 4096]⟩
abbrev S112x32 : Shape := ⟨2, ![112, 32]⟩
abbrev S96x32x128 : Shape := ⟨3, ![96, 32, 128]⟩
abbrev S_ : Shape := ⟨0, ![]⟩
abbrev S96x32 : Shape := ⟨2, ![96, 32]⟩

class Facts : Prop where
  bitsLt_bf16_f32 : FTy.bits .bf16 < FTy.bits .f32
  shapeCasts_S96x1x4096_S96x32x128 : S96x1x4096.ShapeCasts S96x32x128
  reducesTo_S96x32x128_S96x32_d2 : S96x32x128.ReducesTo [2] S96x32
  h_S_ : 0 < S_.numel
  bcast_S_S96x32 : S_.BroadcastsInDim S96x32 (![] : Fin 0 → Fin S96x32.rank)

variable [Facts]

def fn {F : FTy → Type} [FloatOps F] (main_arg0 : FVec F S96x1x4096 .bf16) (main_arg1 : FVec F S14336x4096 .fp8e4m3) (main_arg2 : FVec F S112x32 .f32) (main_arg3 : FVec F S14336x4096 .fp8e4m3) (main_arg4 : FVec F S112x32 .f32) : IVec S96x32 1 :=
  let main_v0 : FVec F S96x1x4096 .f32 := (extf .f32 · bitsLt_bf16_f32) main_arg0
  let main_v1 : FVec F S96x32x128 .f32 := shapeCast S96x32x128 main_v0 shapeCasts_S96x1x4096_S96x32x128
  let main_v2 : FVec F S96x32x128 .f32 := Host.absf main_v1
  let main_cst : FVec F S_ .f32 := constant S_ .f32 0xFF800000#32
  let main_v3 : FVec F S96x32 .f32 := (fun x v => Host.reduce FloatOps.maximumf x v reducesTo_S96x32x128_S96x32_d2 h_S_) main_v2 main_cst
  let main_cst_0 : FVec F S_ .f32 := constant S_ .f32 0x00000000#32
  let main_v4 : FVec F S96x32 .f32 := broadcastInDim S96x32 ![] bcast_S_S96x32 main_cst_0
  let main_v5 : IVec S96x32 1 := cmpf .oeq main_v3 main_v4
  let main_cst_1 : FVec F S_ .f32 := constant S_ .f32 0x7F7F0000#32
  let main_v6 : FVec F S96x32 .f32 := broadcastInDim S96x32 ![] bcast_S_S96x32 main_cst_1
  let main_v7 : IVec S96x32 1 := cmpf .ole main_v3 main_v6
  let main_cst_2 : FVec F S_ .f32 := constant S_ .f32 0x3B124925#32
  let main_v8 : FVec F S96x32 .f32 := broadcastInDim S96x32 ![] bcast_S_S96x32 main_cst_2
  let main_v9 : FVec F S96x32 .f32 := mulf main_v3 main_v8
  let main_cst_3 : FVec F S_ .f32 := constant S_ .f32 0x00800000#32
  let main_v10 : FVec F S96x32 .f32 := broadcastInDim S96x32 ![] bcast_S_S96x32 main_cst_3
  let main_v11 : IVec S96x32 1 := cmpf .oge main_v9 main_v10
  let main_v12 : IVec S96x32 1 := andi main_v7 main_v11
  let main_v13 : IVec S96x32 1 := ori main_v5 main_v12
  main_v13
-- ==== Kernel.lean ====
abbrev S96x1x4096 : Shape := ⟨3, ![96, 1, 4096]⟩
abbrev S14336x4096 : Shape := ⟨2, ![14336, 4096]⟩
abbrev S112x32 : Shape := ⟨2, ![112, 32]⟩
abbrev S96x4096 : Shape := ⟨2, ![96, 4096]⟩
abbrev S96x14336 : Shape := ⟨2, ![96, 14336]⟩
abbrev S96x32 : Shape := ⟨2, ![96, 32]⟩
abbrev S512x4096 : Shape := ⟨2, ![512, 4096]⟩
abbrev S96x512 : Shape := ⟨2, ![96, 512]⟩
abbrev S16x192x256 : Shape := ⟨3, ![16, 192, 256]⟩
abbrev S32x96x128 : Shape := ⟨3, ![32, 96, 128]⟩
abbrev S96x128 : Shape := ⟨2, ![96, 128]⟩
abbrev S96 : Shape := ⟨1, ![96]⟩
abbrev S96x1 : Shape := ⟨2, ![96, 1]⟩
abbrev S1x96x128 : Shape := ⟨3, ![1, 96, 128]⟩
abbrev S256x256 : Shape := ⟨2, ![256, 256]⟩
abbrev S1x192x256 : Shape := ⟨3, ![1, 192, 256]⟩
abbrev S192x256 : Shape := ⟨2, ![192, 256]⟩
abbrev S1x1 : Shape := ⟨2, ![1, 1]⟩
abbrev S96x256 : Shape := ⟨2, ![96, 256]⟩
abbrev S96x1x14336 : Shape := ⟨3, ![96, 1, 14336]⟩
abbrev S96x1x32 : Shape := ⟨3, ![96, 1, 32]⟩

abbrev nBuf : Space → Nat
  | .hbm => 12
  | .vmem => 11
  | .smem => 2
  | _ => 0

abbrev bufTy : (tb : Table) → Fin (tcTables nBuf tb) → BufTy
  | .hbm, ⟨0, _⟩ => ⟨S96x1x4096, .bf16⟩
  | .hbm, ⟨1, _⟩ => ⟨S14336x4096, .fp8e4m3⟩
  | .hbm, ⟨2, _⟩ => ⟨S112x32, .f32⟩
  | .hbm, ⟨3, _⟩ => ⟨S14336x4096, .fp8e4m3⟩
  | .hbm, ⟨4, _⟩ => ⟨S112x32, .f32⟩
  | .hbm, ⟨5, _⟩ => ⟨S96x4096, .bf16⟩
  | .hbm, ⟨6, _⟩ => ⟨S96x14336, .bf16⟩
  | .hbm, ⟨7, _⟩ => ⟨S96x4096, .fp8e4m3⟩
  | .hbm, ⟨8, _⟩ => ⟨S96x32, .f32⟩
  | .hbm, ⟨9, _⟩ => ⟨S96x1x14336, .bf16⟩
  | .hbm, ⟨10, _⟩ => ⟨S96x1x4096, .fp8e4m3⟩
  | .hbm, ⟨11, _⟩ => ⟨S96x1x32, .f32⟩
  | .local _ .vmem, ⟨0, _⟩ => ⟨S96x4096, .bf16⟩
  | .local _ .vmem, ⟨1, _⟩ => ⟨S512x4096, .fp8e4m3⟩
  | .local _ .vmem, ⟨2, _⟩ => ⟨S512x4096, .fp8e4m3⟩
  | .local _ .vmem, ⟨3, _⟩ => ⟨S512x4096, .fp8e4m3⟩
  | .local _ .vmem, ⟨4, _⟩ => ⟨S512x4096, .fp8e4m3⟩
  | .local _ .vmem, ⟨5, _⟩ => ⟨S96x512, .bf16⟩
  | .local _ .vmem, ⟨6, _⟩ => ⟨S96x512, .bf16⟩
  | .local _ .vmem, ⟨7, _⟩ => ⟨S96x4096, .fp8e4m3⟩
  | .local _ .vmem, ⟨8, _⟩ => ⟨S96x32, .f32⟩
  | .local _ .vmem, ⟨9, _⟩ => ⟨S16x192x256, .fp8e4m3⟩
  | .local _ .vmem, ⟨10, _⟩ => ⟨S32x96x128, .f32⟩
  | .local _ .smem, ⟨0, _⟩ => ⟨S112x32, .f32⟩
  | .local _ .smem, ⟨1, _⟩ => ⟨S112x32, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![28], ![false]⟩

def k0_off1 (i : grid0.Coords) (c0_i32_1 : BitVec 32) (c0_i32_16 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v32 : BitVec 32 := Scalar.addi v21 c0_i32_16
  let v33 : Index := Scalar.indexCast v32
  let c0_17 : Index := 0#32
  ![v33.toNat, 0]
def k0_off2 (i : grid0.Coords) (c0_i32_1 : BitVec 32) (c0_i32_22 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v50 : BitVec 32 := Scalar.addi v21 c0_i32_22
  let v51 : Index := Scalar.indexCast v50
  let c1_23 : Index := 1#32
  ![v51.toNat, 1]
def k0_off3 (i : grid0.Coords) (c0_i32_1 : BitVec 32) (c0_i32_33 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v72 : BitVec 32 := Scalar.addi v21 c0_i32_33
  let v73 : Index := Scalar.indexCast v72
  let c2_34 : Index := 2#32
  ![v73.toNat, 2]
def k0_off4 (i : grid0.Coords) (c0_i32_1 : BitVec 32) (c0_i32_39 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v90 : BitVec 32 := Scalar.addi v21 c0_i32_39
  let v91 : Index := Scalar.indexCast v90
  let c3_40 : Index := 3#32
  ![v91.toNat, 3]
def k0_off5 (i : grid0.Coords) (c0_i32_1 : BitVec 32) (c0_i32_50 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v112 : BitVec 32 := Scalar.addi v21 c0_i32_50
  let v113 : Index := Scalar.indexCast v112
  let c4_51 : Index := 4#32
  ![v113.toNat, 4]
def k0_off6 (i : grid0.Coords) (c0_i32_1 : BitVec 32) (c0_i32_56 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v130 : BitVec 32 := Scalar.addi v21 c0_i32_56
  let v131 : Index := Scalar.indexCast v130
  let c5_57 : Index := 5#32
  ![v131.toNat, 5]
def k0_off7 (i : grid0.Coords) (c0_i32_1 : BitVec 32) (c0_i32_67 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v152 : BitVec 32 := Scalar.addi v21 c0_i32_67
  let v153 : Index := Scalar.indexCast v152
  let c6_68 : Index := 6#32
  ![v153.toNat, 6]
def k0_off8 (i : grid0.Coords) (c0_i32_1 : BitVec 32) (c0_i32_73 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v170 : BitVec 32 := Scalar.addi v21 c0_i32_73
  let v171 : Index := Scalar.indexCast v170
  let c7_74 : Index := 7#32
  ![v171.toNat, 7]
def k0_off9 (i : grid0.Coords) (c0_i32_1 : BitVec 32) (c0_i32_84 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v192 : BitVec 32 := Scalar.addi v21 c0_i32_84
  let v193 : Index := Scalar.indexCast v192
  let c8_85 : Index := 8#32
  ![v193.toNat, 8]
def k0_off10 (i : grid0.Coords) (c0_i32_1 : BitVec 32) (c0_i32_90 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v210 : BitVec 32 := Scalar.addi v21 c0_i32_90
  let v211 : Index := Scalar.indexCast v210
  let c9_91 : Index := 9#32
  ![v211.toNat, 9]
def k0_off11 (i : grid0.Coords) (c0_i32_1 : BitVec 32) (c0_i32_101 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v232 : BitVec 32 := Scalar.addi v21 c0_i32_101
  let v233 : Index := Scalar.indexCast v232
  let c10_102 : Index := 10#32
  ![v233.toNat, 10]
def k0_off12 (i : grid0.Coords) (c0_i32_1 : BitVec 32) (c0_i32_107 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v250 : BitVec 32 := Scalar.addi v21 c0_i32_107
  let v251 : Index := Scalar.indexCast v250
  let c11_108 : Index := 11#32
  ![v251.toNat, 11]
def k0_off13 (i : grid0.Coords) (c0_i32_1 : BitVec 32) (c0_i32_118 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v272 : BitVec 32 := Scalar.addi v21 c0_i32_118
  let v273 : Index := Scalar.indexCast v272
  let c12_119 : Index := 12#32
  ![v273.toNat, 12]
def k0_off14 (i : grid0.Coords) (c0_i32_1 : BitVec 32) (c0_i32_124 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v290 : BitVec 32 := Scalar.addi v21 c0_i32_124
  let v291 : Index := Scalar.indexCast v290
  let c13_125 : Index := 13#32
  ![v291.toNat, 13]
def k0_off15 (i : grid0.Coords) (c0_i32_1 : BitVec 32) (c0_i32_135 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v312 : BitVec 32 := Scalar.addi v21 c0_i32_135
  let v313 : Index := Scalar.indexCast v312
  let c14_136 : Index := 14#32
  ![v313.toNat, 14]
def k0_off16 (i : grid0.Coords) (c0_i32_1 : BitVec 32) (c0_i32_141 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v330 : BitVec 32 := Scalar.addi v21 c0_i32_141
  let v331 : Index := Scalar.indexCast v330
  let c15_142 : Index := 15#32
  ![v331.toNat, 15]
def k0_off17 (i : grid0.Coords) (c0_i32_1 : BitVec 32) (c0_i32_152 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v352 : BitVec 32 := Scalar.addi v21 c0_i32_152
  let v353 : Index := Scalar.indexCast v352
  let c16_153 : Index := 16#32
  ![v353.toNat, 16]
def k0_off18 (i : grid0.Coords) (c0_i32_1 : BitVec 32) (c0_i32_158 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v370 : BitVec 32 := Scalar.addi v21 c0_i32_158
  let v371 : Index := Scalar.indexCast v370
  let c17_159 : Index := 17#32
  ![v371.toNat, 17]
def k0_off19 (i : grid0.Coords) (c0_i32_1 : BitVec 32) (c0_i32_169 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v392 : BitVec 32 := Scalar.addi v21 c0_i32_169
  let v393 : Index := Scalar.indexCast v392
  let c18_170 : Index := 18#32
  ![v393.toNat, 18]
def k0_off20 (i : grid0.Coords) (c0_i32_1 : BitVec 32) (c0_i32_175 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v410 : BitVec 32 := Scalar.addi v21 c0_i32_175
  let v411 : Index := Scalar.indexCast v410
  let c19_176 : Index := 19#32
  ![v411.toNat, 19]
def k0_off21 (i : grid0.Coords) (c0_i32_1 : BitVec 32) (c0_i32_186 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v432 : BitVec 32 := Scalar.addi v21 c0_i32_186
  let v433 : Index := Scalar.indexCast v432
  let c20_187 : Index := 20#32
  ![v433.toNat, 20]
def k0_off22 (i : grid0.Coords) (c0_i32_1 : BitVec 32) (c0_i32_192 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v450 : BitVec 32 := Scalar.addi v21 c0_i32_192
  let v451 : Index := Scalar.indexCast v450
  let c21_193 : Index := 21#32
  ![v451.toNat, 21]
def k0_off23 (i : grid0.Coords) (c0_i32_1 : BitVec 32) (c0_i32_203 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v472 : BitVec 32 := Scalar.addi v21 c0_i32_203
  let v473 : Index := Scalar.indexCast v472
  let c22_204 : Index := 22#32
  ![v473.toNat, 22]
def k0_off24 (i : grid0.Coords) (c0_i32_1 : BitVec 32) (c0_i32_209 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v490 : BitVec 32 := Scalar.addi v21 c0_i32_209
  let v491 : Index := Scalar.indexCast v490
  let c23_210 : Index := 23#32
  ![v491.toNat, 23]
def k0_off25 (i : grid0.Coords) (c0_i32_1 : BitVec 32) (c0_i32_220 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v512 : BitVec 32 := Scalar.addi v21 c0_i32_220
  let v513 : Index := Scalar.indexCast v512
  let c24_221 : Index := 24#32
  ![v513.toNat, 24]
def k0_off26 (i : grid0.Coords) (c0_i32_1 : BitVec 32) (c0_i32_226 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v530 : BitVec 32 := Scalar.addi v21 c0_i32_226
  let v531 : Index := Scalar.indexCast v530
  let c25_227 : Index := 25#32
  ![v531.toNat, 25]
def k0_off27 (i : grid0.Coords) (c0_i32_1 : BitVec 32) (c0_i32_237 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v552 : BitVec 32 := Scalar.addi v21 c0_i32_237
  let v553 : Index := Scalar.indexCast v552
  let c26_238 : Index := 26#32
  ![v553.toNat, 26]
def k0_off28 (i : grid0.Coords) (c0_i32_1 : BitVec 32) (c0_i32_243 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v570 : BitVec 32 := Scalar.addi v21 c0_i32_243
  let v571 : Index := Scalar.indexCast v570
  let c27_244 : Index := 27#32
  ![v571.toNat, 27]
def k0_off29 (i : grid0.Coords) (c0_i32_1 : BitVec 32) (c0_i32_254 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v592 : BitVec 32 := Scalar.addi v21 c0_i32_254
  let v593 : Index := Scalar.indexCast v592
  let c28_255 : Index := 28#32
  ![v593.toNat, 28]
def k0_off30 (i : grid0.Coords) (c0_i32_1 : BitVec 32) (c0_i32_260 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v610 : BitVec 32 := Scalar.addi v21 c0_i32_260
  let v611 : Index := Scalar.indexCast v610
  let c29_261 : Index := 29#32
  ![v611.toNat, 29]
def k0_off31 (i : grid0.Coords) (c0_i32_1 : BitVec 32) (c0_i32_271 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v632 : BitVec 32 := Scalar.addi v21 c0_i32_271
  let v633 : Index := Scalar.indexCast v632
  let c30_272 : Index := 30#32
  ![v633.toNat, 30]
def k0_off32 (i : grid0.Coords) (c0_i32_1 : BitVec 32) (c0_i32_277 : BitVec 32) : Fin 2 → Nat :=
  let arg0 : BitVec 32 := BitVec.ofNat 32 (i 0).val
  let c512_i32 : BitVec 32 := 512#32
  let v3 : BitVec 32 := Scalar.muli arg0 c512_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c128_i32 : BitVec 32 := 128#32
  let c0_i32_4 : BitVec 32 := 0#32
  let v11 : BitVec 1 := Scalar.cmpi .sgt c128_i32 c0_i32_4
  let v12 : BitVec 32 := Scalar.extui v11
  let c0_i32_5 : BitVec 32 := 0#32
  let v13 : BitVec 1 := Scalar.cmpi .slt c128_i32 c0_i32_5
  let v14 : BitVec 32 := Scalar.extui v13
  let v15 : BitVec 32 := Scalar.subi v12 v14
  let v16 : BitVec 1 := Scalar.cmpi .ne v10 v15
  let v17 : BitVec 32 := Scalar.remsi v4 c128_i32
  let c0_i32_6 : BitVec 32 := 0#32
  let v18 : BitVec 1 := Scalar.cmpi .ne v17 c0_i32_6
  let v19 : BitVec 1 := Scalar.andi v16 v18
  let v5 : BitVec 32 := Scalar.divsi v4 c128_i32
  let c1_i32 : BitVec 32 := 1#32
  let v20 : BitVec 32 := Scalar.subi v5 c1_i32
  let v21 : BitVec 32 := Scalar.select v19 v20 v5
  let v650 : BitVec 32 := Scalar.addi v21 c0_i32_277
  let v651 : Index := Scalar.indexCast v650
  let c31_278 : Index := 31#32
  ![v651.toNat, 31]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S112x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S112x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S96x1x4096 : Shape := ⟨3, ![96, 1, 4096]⟩
abbrev S14336x4096 : Shape := ⟨2, ![14336, 4096]⟩
abbrev S112x32 : Shape := ⟨2, ![112, 32]⟩
abbrev S96x1x14336 : Shape := ⟨3, ![96, 1, 14336]⟩
abbrev S96x1x32 : Shape := ⟨3, ![96, 1, 32]⟩
abbrev S96x4096 : Shape := ⟨2, ![96, 4096]⟩
abbrev S96x32x128 : Shape := ⟨3, ![96, 32, 128]⟩
abbrev S96x32 : Shape := ⟨2, ![96, 32]⟩
abbrev S96x32x1 : Shape := ⟨3, ![96, 32, 1]⟩
abbrev S96x32x256 : Shape := ⟨3, ![96, 32, 256]⟩
abbrev S14336x32x128 : Shape := ⟨3, ![14336, 32, 128]⟩
abbrev S32x96x14336 : Shape := ⟨3, ![32, 96, 14336]⟩
abbrev S32x96x112x128 : Shape := ⟨4, ![32, 96, 112, 128]⟩
abbrev S32x96 : Shape := ⟨2, ![32, 96]⟩
abbrev S32x96x1x1 : Shape := ⟨4, ![32, 96, 1, 1]⟩
abbrev S32x112 : Shape := ⟨2, ![32, 112]⟩
abbrev S32x1x112x1 : Shape := ⟨4, ![32, 1, 112, 1]⟩
abbrev S96x112x128 : Shape := ⟨3, ![96, 112, 128]⟩
abbrev S96x14336 : Shape := ⟨2, ![96, 14336]⟩

abbrev nBuf : Space → Nat
  | .hbm => 8
  | .vmem => 8
  | .smem => 0
  | _ => 0

abbrev bufTy : (tb : Table) → Fin (tcTables nBuf tb) → BufTy
  | .hbm, ⟨0, _⟩ => ⟨S96x1x4096, .bf16⟩
  | .hbm, ⟨1, _⟩ => ⟨S14336x4096, .fp8e4m3⟩
  | .hbm, ⟨2, _⟩ => ⟨S112x32, .f32⟩
  | .hbm, ⟨3, _⟩ => ⟨S14336x4096, .fp8e4m3⟩
  | .hbm, ⟨4, _⟩ => ⟨S112x32, .f32⟩
  | .hbm, ⟨5, _⟩ => ⟨S96x1x14336, .bf16⟩
  | .hbm, ⟨6, _⟩ => ⟨S96x1x4096, .fp8e4m3⟩
  | .hbm, ⟨7, _⟩ => ⟨S96x1x32, .f32⟩
  | .local _ .vmem, ⟨0, _⟩ => ⟨S96x1x4096, .bf16⟩
  | .local _ .vmem, ⟨1, _⟩ => ⟨S14336x4096, .fp8e4m3⟩
  | .local _ .vmem, ⟨2, _⟩ => ⟨S112x32, .f32⟩
  | .local _ .vmem, ⟨3, _⟩ => ⟨S14336x4096, .fp8e4m3⟩
  | .local _ .vmem, ⟨4, _⟩ => ⟨S112x32, .f32⟩
  | .local _ .vmem, ⟨5, _⟩ => ⟨S96x1x14336, .bf16⟩
  | .local _ .vmem, ⟨6, _⟩ => ⟨S96x1x4096, .fp8e4m3⟩
  | .local _ .vmem, ⟨7, _⟩ => ⟨S96x1x32, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S96x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/- The kernel's body in two stages: `quant`, what the first grid point alone does (it quantises the activations into the
   code and scale outputs and the two scratch buffers), and `main`, what every grid point does (the two block-scaled
   products and the gate). Both are the body's own operations, over the generated skeleton's parts; `body_eq` is the body. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]

/-- The first grid point's own stage: quantise the activations. -/
def quant (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    Prog (TpuEff nD τ sig (Elt F) Λ₀ .tc) PUnit := do
  let ⟨v2661, v2663, v5136, v5150, v5155, v5163, v5165, v5168⟩ : Σ' (v2661 : IVec S96x32 32) (v2663 : FVec F S96x128 .fp8e4m3) (v5136 : FVec F S96x32 .f32) (v5150 : FVec F S96x128 .f32) (v5155 : FVec F S96x1 .f32) (v5163 : IVec S96x1 32) (v5165 : IVec S96x1 32), FVec F S96x1 .f32 ← k0_part83 i arg1 harg1 arg2 harg2 arg3 harg3 arg4 harg4 arg5 harg5 arg6 harg6 arg7 harg7 arg8 harg8 arg9 harg9 arg10 harg10
  let v6108 : FVec F S96x32 .f32 ← k0_part84 i arg1 harg1 arg2 harg2 arg3 harg3 arg4 harg4 arg5 harg5 arg6 harg6 arg7 harg7 arg8 harg8 arg9 harg9 arg10 harg10 v2661 v2663 v5136 v5150 v5155 v5163 v5165 v5168
  let v6117 : Vec F S1x96x128 .fp8e4m3 ← Prog.lift (.load arg9 (Rect.unit (s := S16x192x256) ![15, 96, 0] S1x96x128.size inb_S16x192x256_S1x96x128_15_96_0).toLoadRect (View.loadsAt_vmem h_S1x96x128))
  Prog.lift (.store arg9 (Rect.unit (s := S16x192x256) ![15, 96, 0] S1x96x128.size inb_S16x192x256_S1x96x128_15_96_0) (k0_pay419 v2663) Finset.univ (View.stores_vmem h_S1x96x128 (harg9.storeExact_slice rfl _ packedfp8e4m3_S16x192x256_S1x96x128_15_96_0) (fun _ => rfl)) (.inl rfl))
  let v6120 : Vec F S96x32 .f32 ← Prog.lift (.load arg8 (Rect.unit (s := S96x32) ![0, 0] S96x32.size inb_S96x32_S96x32_0_0).toLoadRect (View.loadsAt_vmem h_S96x32))
  Prog.lift (.store arg8 (Rect.unit (s := S96x32) ![0, 0] S96x32.size inb_S96x32_S96x32_0_0) v6108 Finset.univ (View.stores_vmem_bits_univ h_S96x32 rfl) (.inl rfl))
  pure ⟨⟩

/-- Every grid point's stage: the two products of the block and the gate. -/
def main (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    Prog (TpuEff nD τ sig (Elt F) Λ₀ .tc) PUnit := do
  let arg0 : BitVec 32 := BitVec.ofNat 32 (i 0).val
  let v3 : BitVec 32 := Scalar.muli arg0 512#32
  let v4 : BitVec 32 := Scalar.addi v3 0#32
  let v5 : BitVec 32 := Scalar.divsi v4 128#32
  let v6 : BitVec 1 := Scalar.cmpi .sgt v4 0#32
  let v7 : BitVec 32 := Scalar.extui v6
  let v8 : BitVec 1 := Scalar.cmpi .slt v4 0#32
  let v9 : BitVec 32 := Scalar.extui v8
  let v10 : BitVec 32 := Scalar.subi v7 v9
  let v11 : BitVec 1 := Scalar.cmpi .sgt 128#32 0#32
  let v12 : BitVec 32 := Scalar.extui v11
  let v13 : BitVec 1 := Scalar.cmpi .slt 128#32 0#32
  let v14 : BitVec 32 := Scalar.extui v13
  let v15 : BitVec 32 := Scalar.subi v12 v14
  let v16 : BitVec 1 := Scalar.cmpi .ne v10 v15
  let v17 : BitVec 32 := Scalar.remsi v4 128#32
  let v18 : BitVec 1 := Scalar.cmpi .ne v17 0#32
  let v19 : BitVec 1 := Scalar.andi v16 v18
  let v20 : BitVec 32 := Scalar.subi v5 1#32
  let v21 : BitVec 32 := Scalar.select v19 v20 v5
  let v24 : Vec F S256x256 .fp8e4m3 ← Prog.lift (.load arg2 (Rect.unit (s := S512x4096) ![0, 0] S256x256.size inb_S512x4096_S256x256_0_0).toLoadRect (View.loadsAt_vmem h_S256x256))
  let v25 : Vec F S1x192x256 .fp8e4m3 ← Prog.lift (.load arg9 (Rect.unit (s := S16x192x256) ![0, 0, 0] S1x192x256.size inb_S16x192x256_S1x192x256_0_0_0).toLoadRect (View.loadsAt_vmem h_S1x192x256))
  let v28 : Vec F S1x96x128 .f32 ← Prog.lift (.load arg10 (Rect.unit (s := S32x96x128) ![0, 0, 0] S1x96x128.size inb_S32x96x128_S1x96x128_0_0_0).toLoadRect (View.loadsAt_vmem h_S1x96x128))
  let v22 := k0_pay420 (F := F)
  let v23 := k0_pay421 (F := F)
  let v27 := k0_pay422 v24 v25
  let v29 := k0_pay423 v28
  let v31 := k0_pay424 v24 v25 v28
  let ⟨v55, v63, v67, v69, v71⟩ : Σ' (v55 : FVec F S96x128 .f32) (v63 : FVec F S96x128 .f32) (v67 : FVec F S192x256 .f32) (v69 : FVec F S96x128 .f32), FVec F S96x128 .f32 ← k0_part86 i arg1 harg1 arg2 harg2 arg3 harg3 arg4 harg4 arg5 harg5 arg6 harg6 arg7 harg7 arg8 harg8 arg9 harg9 arg10 harg10 v21 v22 v23 v27 v29 v31
  let ⟨v95, v103, v107, v109, v111⟩ : Σ' (v95 : FVec F S96x128 .f32) (v103 : FVec F S96x128 .f32) (v107 : FVec F S192x256 .f32) (v109 : FVec F S96x128 .f32), FVec F S96x128 .f32 ← k0_part87 i arg1 harg1 arg2 harg2 arg3 harg3 arg4 harg4 arg5 harg5 arg6 harg6 arg7 harg7 arg8 harg8 arg9 harg9 arg10 harg10 v21 v55 v63 v67 v69 v71
  let ⟨v135, v143, v147, v149, v151⟩ : Σ' (v135 : FVec F S96x128 .f32) (v143 : FVec F S96x128 .f32) (v147 : FVec F S192x256 .f32) (v149 : FVec F S96x128 .f32), FVec F S96x128 .f32 ← k0_part88 i arg1 harg1 arg2 harg2 arg3 harg3 arg4 harg4 arg5 harg5 arg6 harg6 arg7 harg7 arg8 harg8 arg9 harg9 arg10 harg10 v21 v95 v103 v107 v109 v111
  let ⟨v175, v183, v187, v189, v191⟩ : Σ' (v175 : FVec F S96x128 .f32) (v183 : FVec F S96x128 .f32) (v187 : FVec F S192x256 .f32) (v189 : FVec F S96x128 .f32), FVec F S96x128 .f32 ← k0_part89 i arg1 harg1 arg2 harg2 arg3 harg3 arg4 harg4 arg5 harg5 arg6 harg6 arg7 harg7 arg8 harg8 arg9 harg9 arg10 harg10 v21 v135 v143 v147 v149 v151
  let ⟨v215, v223, v227, v229, v231⟩ : Σ' (v215 : FVec F S96x128 .f32) (v223 : FVec F S96x128 .f32) (v227 : FVec F S192x256 .f32) (v229 : FVec F S96x128 .f32), FVec F S96x128 .f32 ← k0_part90 i arg1 harg1 arg2 harg2 arg3 harg3 arg4 harg4 arg5 harg5 arg6 harg6 arg7 harg7 arg8 harg8 arg9 harg9 arg10 harg10 v21 v175 v183 v187 v189 v191
  let ⟨v255, v263, v267, v269, v271⟩ : Σ' (v255 : FVec F S96x128 .f32) (v263 : FVec F S96x128 .f32) (v267 : FVec F S192x256 .f32) (v269 : FVec F S96x128 .f32), FVec F S96x128 .f32 ← k0_part91 i arg1 harg1 arg2 harg2 arg3 harg3 arg4 harg4 arg5 harg5 arg6 harg6 arg7 harg7 arg8 harg8 arg9 harg9 arg10 harg10 v21 v215 v223 v227 v229 v231
  let ⟨v295, v303, v307, v309, v311⟩ : Σ' (v295 : FVec F S96x128 .f32) (v303 : FVec F S96x128 .f32) (v307 : FVec F S192x256 .f32) (v309 : FVec F S96x128 .f32), FVec F S96x128 .f32 ← k0_part92 i arg1 harg1 arg2 harg2 arg3 harg3 arg4 harg4 arg5 harg5 arg6 harg6 arg7 harg7 arg8 harg8 arg9 harg9 arg10 harg10 v21 v255 v263 v267 v269 v271
  let ⟨v335, v343, v347, v349, v351⟩ : Σ' (v335 : FVec F S96x128 .f32) (v343 : FVec F S96x128 .f32) (v347 : FVec F S192x256 .f32) (v349 : FVec F S96x128 .f32), FVec F S96x128 .f32 ← k0_part93 i arg1 harg1 arg2 harg2 arg3 harg3 arg4 harg4 arg5 harg5 arg6 harg6 arg7 harg7 arg8 harg8 arg9 harg9 arg10 harg10 v21 v295 v303 v307 v309 v311
  let ⟨v375, v383, v387, v389, v391⟩ : Σ' (v375 : FVec F S96x128 .f32) (v383 : FVec F S96x128 .f32) (v387 : FVec F S192x256 .f32) (v389 : FVec F S96x128 .f32), FVec F S96x128 .f32 ← k0_part94 i arg1 harg1 arg2 harg2 arg3 harg3 arg4 harg4 arg5 harg5 arg6 harg6 arg7 harg7 arg8 harg8 arg9 harg9 arg10 harg10 v21 v335 v343 v347 v349 v351
  let ⟨v415, v423, v427, v429, v431⟩ : Σ' (v415 : FVec F S96x128 .f32) (v423 : FVec F S96x128 .f32) (v427 : FVec F S192x256 .f32) (v429 : FVec F S96x128 .f32), FVec F S96x128 .f32 ← k0_part95 i arg1 harg1 arg2 harg2 arg3 harg3 arg4 harg4 arg5 harg5 arg6 harg6 arg7 harg7 arg8 harg8 arg9 harg9 arg10 harg10 v21 v375 v383 v387 v389 v391
  let ⟨v455, v463, v467, v469, v471⟩ : Σ' (v455 : FVec F S96x128 .f32) (v463 : FVec F S96x128 .f32) (v467 : FVec F S192x256 .f32) (v469 : FVec F S96x128 .f32), FVec F S96x128 .f32 ← k0_part96 i arg1 harg1 arg2 harg2 arg3 harg3 arg4 harg4 arg5 harg5 arg6 harg6 arg7 harg7 arg8 harg8 arg9 harg9 arg10 harg10 v21 v415 v423 v427 v429 v431
  let ⟨v495, v503, v507, v509, v511⟩ : Σ' (v495 : FVec F S96x128 .f32) (v503 : FVec F S96x128 .f32) (v507 : FVec F S192x256 .f32) (v509 : FVec F S96x128 .f32), FVec F S96x128 .f32 ← k0_part97 i arg1 harg1 arg2 harg2 arg3 harg3 arg4 harg4 arg5 harg5 arg6 harg6 arg7 harg7 arg8 harg8 arg9 harg9 arg10 harg10 v21 v455 v463 v467 v469 v471
  let ⟨v535, v543, v547, v549, v551⟩ : Σ' (v535 : FVec F S96x128 .f32) (v543 : FVec F S96x128 .f32) (v547 : FVec F S192x256 .f32) (v549 : FVec F S96x128 .f32), FVec F S96x128 .f32 ← k0_part98 i arg1 harg1 arg2 harg2 arg3 harg3 arg4 harg4 arg5 harg5 arg6 harg6 arg7 harg7 arg8 harg8 arg9 harg9 arg10 harg10 v21 v495 v503 v507 v509 v511
  let ⟨v575, v583, v587, v589, v591⟩ : Σ' (v575 : FVec F S96x128 .f32) (v583 : FVec F S96x128 .f32) (v587 : FVec F S192x256 .f32) (v589 : FVec F S96x128 .f32), FVec F S96x128 .f32 ← k0_part99 i arg1 harg1 arg2 harg2 arg3 harg3 arg4 harg4 arg5 harg5 arg6 harg6 arg7 harg7 arg8 harg8 arg9 harg9 arg10 harg10 v21 v535 v543 v547 v549 v551
  let ⟨v615, v623, v627, v629, v631⟩ : Σ' (v615 : FVec F S96x128 .f32) (v623 : FVec F S96x128 .f32) (v627 : FVec F S192x256 .f32) (v629 : FVec F S96x128 .f32), FVec F S96x128 .f32 ← k0_part100 i arg1 harg1 arg2 harg2 arg3 harg3 arg4 harg4 arg5 harg5 arg6 harg6 arg7 harg7 arg8 harg8 arg9 harg9 arg10 harg10 v21 v575 v583 v587 v589 v591
  let ⟨v664, v666, c128_i32_283, v667, v672, v677⟩ : Σ' (v664 : FVec F S96x256 .f32) (v666 : BitVec 32) (c128_i32_283 : BitVec 32) (v667 : BitVec 32) (v672 : BitVec 32), BitVec 32 ← k0_part101 i arg1 harg1 arg2 harg2 arg3 harg3 arg4 harg4 arg5 harg5 arg6 harg6 arg7 harg7 arg8 harg8 arg9 harg9 arg10 harg10 arg0 v21 v615 v623 v627 v629 v631
  let ⟨v683, v689, v699, v707, v709, v711, v715⟩ : Σ' (v683 : BitVec 32) (v689 : FVec F S192x256 .f32) (v699 : FVec F S96x128 .f32) (v707 : FVec F S96x128 .f32) (v709 : FVec F S96x128 .f32) (v711 : FVec F S96x128 .f32), FVec F S96x128 .f32 ← k0_part102 i arg1 harg1 arg2 harg2 arg3 harg3 arg4 harg4 arg5 harg5 arg6 harg6 arg7 harg7 arg8 harg8 arg9 harg9 arg10 harg10 v666 c128_i32_283 v667 v672 v677
  let ⟨v729, v739, v747, v749, v751, v755⟩ : Σ' (v729 : FVec F S192x256 .f32) (v739 : FVec F S96x128 .f32) (v747 : FVec F S96x128 .f32) (v749 : FVec F S96x128 .f32) (v751 : FVec F S96x128 .f32), FVec F S96x128 .f32 ← k0_part103 i arg1 harg1 arg2 harg2 arg3 harg3 arg4 harg4 arg5 harg5 arg6 harg6 arg7 harg7 arg8 harg8 arg9 harg9 arg10 harg10 v683 v689 v699 v707 v709 v711 v715
  let ⟨v769, v779, v787, v789, v791, v795⟩ : Σ' (v769 : FVec F S192x256 .f32) (v779 : FVec F S96x128 .f32) (v787 : FVec F S96x128 .f32) (v789 : FVec F S96x128 .f32) (v791 : FVec F S96x128 .f32), FVec F S96x128 .f32 ← k0_part104 i arg1 harg1 arg2 harg2 arg3 harg3 arg4 harg4 arg5 harg5 arg6 harg6 arg7 harg7 arg8 harg8 arg9 harg9 arg10 harg10 v683 v729 v739 v747 v749 v751 v755
  let ⟨v809, v819, v827, v829, v831, v835⟩ : Σ' (v809 : FVec F S192x256 .f32) (v819 : FVec F S96x128 .f32) (v827 : FVec F S96x128 .f32) (v829 : FVec F S96x128 .f32) (v831 : FVec F S96x128 .f32), FVec F S96x128 .f32 ← k0_part105 i arg1 harg1 arg2 harg2 arg3 harg3 arg4 harg4 arg5 harg5 arg6 harg6 arg7 harg7 arg8 harg8 arg9 harg9 arg10 harg10 v683 v769 v779 v787 v789 v791 v795
  let ⟨v849, v859, v867, v869, v871, v875⟩ : Σ' (v849 : FVec F S192x256 .f32) (v859 : FVec F S96x128 .f32) (v867 : FVec F S96x128 .f32) (v869 : FVec F S96x128 .f32) (v871 : FVec F S96x128 .f32), FVec F S96x128 .f32 ← k0_part106 i arg1 harg1 arg2 harg2 arg3 harg3 arg4 harg4 arg5 harg5 arg6 harg6 arg7 harg7 arg8 harg8 arg9 harg9 arg10 harg10 v683 v809 v819 v827 v829 v831 v835
  let ⟨v889, v899, v907, v909, v911, v915⟩ : Σ' (v889 : FVec F S192x256 .f32) (v899 : FVec F S96x128 .f32) (v907 : FVec F S96x128 .f32) (v909 : FVec F S96x128 .f32) (v911 : FVec F S96x128 .f32), FVec F S96x128 .f32 ← k0_part107 i arg1 harg1 arg2 harg2 arg3 harg3 arg4 harg4 arg5 harg5 arg6 harg6 arg7 harg7 arg8 harg8 arg9 harg9 arg10 harg10 v683 v849 v859 v867 v869 v871 v875
  let ⟨v929, v939, v947, v949, v951, v955⟩ : Σ' (v929 : FVec F S192x256 .f32) (v939 : FVec F S96x128 .f32) (v947 : FVec F S96x128 .f32) (v949 : FVec F S96x128 .f32) (v951 : FVec F S96x128 .f32), FVec F S96x128 .f32 ← k0_part108 i arg1 harg1 arg2 harg2 arg3 harg3 arg4 harg4 arg5 harg5 arg6 harg6 arg7 harg7 arg8 harg8 arg9 harg9 arg10 harg10 v683 v889 v899 v907 v909 v911 v915
  let ⟨v969, v979, v987, v989, v991, v995⟩ : Σ' (v969 : FVec F S192x256 .f32) (v979 : FVec F S96x128 .f32) (v987 : FVec F S96x128 .f32) (v989 : FVec F S96x128 .f32) (v991 : FVec F S96x128 .f32), FVec F S96x128 .f32 ← k0_part109 i arg1 harg1 arg2 harg2 arg3 harg3 arg4 harg4 arg5 harg5 arg6 harg6 arg7 harg7 arg8 harg8 arg9 harg9 arg10 harg10 v683 v929 v939 v947 v949 v951 v955
  let ⟨v1009, v1019, v1027, v1029, v1031, v1035⟩ : Σ' (v1009 : FVec F S192x256 .f32) (v1019 : FVec F S96x128 .f32) (v1027 : FVec F S96x128 .f32) (v1029 : FVec F S96x128 .f32) (v1031 : FVec F S96x128 .f32), FVec F S96x128 .f32 ← k0_part110 i arg1 harg1 arg2 harg2 arg3 harg3 arg4 harg4 arg5 harg5 arg6 harg6 arg7 harg7 arg8 harg8 arg9 harg9 arg10 harg10 v683 v969 v979 v987 v989 v991 v995
  let ⟨v1049, v1059, v1067, v1069, v1071, v1075⟩ : Σ' (v1049 : FVec F S192x256 .f32) (v1059 : FVec F S96x128 .f32) (v1067 : FVec F S96x128 .f32) (v1069 : FVec F S96x128 .f32) (v1071 : FVec F S96x128 .f32), FVec F S96x128 .f32 ← k0_part111 i arg1 harg1 arg2 harg2 arg3 harg3 arg4 harg4 arg5 harg5 arg6 harg6 arg7 harg7 arg8 harg8 arg9 harg9 arg10 harg10 v683 v1009 v1019 v1027 v1029 v1031 v1035
  let ⟨v1089, v1099, v1107, v1109, v1111, v1115⟩ : Σ' (v1089 : FVec F S192x256 .f32) (v1099 : FVec F S96x128 .f32) (v1107 : FVec F S96x128 .f32) (v1109 : FVec F S96x128 .f32) (v1111 : FVec F S96x128 .f32), FVec F S96x128 .f32 ← k0_part112 i arg1 harg1 arg2 harg2 arg3 harg3 arg4 harg4 arg5 harg5 arg6 harg6 arg7 harg7 arg8 harg8 arg9 harg9 arg10 harg10 v683 v1049 v1059 v1067 v1069 v1071 v1075
  let ⟨v1129, v1139, v1147, v1149, v1151, v1155⟩ : Σ' (v1129 : FVec F S192x256 .f32) (v1139 : FVec F S96x128 .f32) (v1147 : FVec F S96x128 .f32) (v1149 : FVec F S96x128 .f32) (v1151 : FVec F S96x128 .f32), FVec F S96x128 .f32 ← k0_part113 i arg1 harg1 arg2 harg2 arg3 harg3 arg4 harg4 arg5 harg5 arg6 harg6 arg7 harg7 arg8 harg8 arg9 harg9 arg10 harg10 v683 v1089 v1099 v1107 v1109 v1111 v1115
  let ⟨v1169, v1179, v1187, v1189, v1191, v1195⟩ : Σ' (v1169 : FVec F S192x256 .f32) (v1179 : FVec F S96x128 .f32) (v1187 : FVec F S96x128 .f32) (v1189 : FVec F S96x128 .f32) (v1191 : FVec F S96x128 .f32), FVec F S96x128 .f32 ← k0_part114 i arg1 harg1 arg2 harg2 arg3 harg3 arg4 harg4 arg5 harg5 arg6 harg6 arg7 harg7 arg8 harg8 arg9 harg9 arg10 harg10 v683 v1129 v1139 v1147 v1149 v1151 v1155
  let ⟨v1209, v1219, v1227, v1229, v1231, v1235⟩ : Σ' (v1209 : FVec F S192x256 .f32) (v1219 : FVec F S96x128 .f32) (v1227 : FVec F S96x128 .f32) (v1229 : FVec F S96x128 .f32) (v1231 : FVec F S96x128 .f32), FVec F S96x128 .f32 ← k0_part115 i arg1 harg1 arg2 harg2 arg3 harg3 arg4 harg4 arg5 harg5 arg6 harg6 arg7 harg7 arg8 harg8 arg9 harg9 arg10 harg10 v683 v1169 v1179 v1187 v1189 v1191 v1195
  let ⟨v1249, v1259, v1267, v1269, v1271, v1275⟩ : Σ' (v1249 : FVec F S192x256 .f32) (v1259 : FVec F S96x128 .f32) (v1267 : FVec F S96x128 .f32) (v1269 : FVec F S96x128 .f32) (v1271 : FVec F S96x128 .f32), FVec F S96x128 .f32 ← k0_part116 i arg1 harg1 arg2 harg2 arg3 harg3 arg4 harg4 arg5 harg5 arg6 harg6 arg7 harg7 arg8 harg8 arg9 harg9 arg10 harg10 v683 v1209 v1219 v1227 v1229 v1231 v1235
  let ⟨v1289, v1299, v1307, v1309, v1311, v1315⟩ : Σ' (v1289 : FVec F S192x256 .f32) (v1299 : FVec F S96x128 .f32) (v1307 : FVec F S96x128 .f32) (v1309 : FVec F S96x128 .f32) (v1311 : FVec F S96x128 .f32), FVec F S96x128 .f32 ← k0_part117 i arg1 harg1 arg2 harg2 arg3 harg3 arg4 harg4 arg5 harg5 arg6 harg6 arg7 harg7 arg8 harg8 arg9 harg9 arg10 harg10 v683 v1249 v1259 v1267 v1269 v1271 v1275
  let ⟨v1350, v1351, v1352, v1353, v1354⟩ : Σ' (v1350 : BitVec 32) (v1351 : FVec F S96x128 .f32) (v1352 : FVec F S96x128 .f32) (v1353 : Vec F S256x256 .fp8e4m3), Vec F S1x192x256 .fp8e4m3 ← k0_part118 i arg1 harg1 arg2 harg2 arg3 harg3 arg4 harg4 arg5 harg5 arg6 harg6 arg7 harg7 arg8 harg8 arg9 harg9 arg10 harg10 arg0 v664 v683 v1289 v1299 v1307 v1309 v1311 v1315
  let ⟨v1384, v1392, v1393, v1394⟩ : Σ' (v1384 : FVec F S96x128 .f32) (v1392 : FVec F S96x128 .f32) (v1393 : Vec F S256x256 .fp8e4m3), Vec F S1x192x256 .fp8e4m3 ← k0_part119 i arg1 harg1 arg2 harg2 arg3 harg3 arg4 harg4 arg5 harg5 arg6 harg6 arg7 harg7 arg8 harg8 arg9 harg9 arg10 harg10 v1350 v1351 v1352 v1353 v1354
  let ⟨v1424, v1432, v1433, v1434⟩ : Σ' (v1424 : FVec F S96x128 .f32) (v1432 : FVec F S96x128 .f32) (v1433 : Vec F S256x256 .fp8e4m3), Vec F S1x192x256 .fp8e4m3 ← k0_part120 i arg1 harg1 arg2 harg2 arg3 harg3 arg4 harg4 arg5 harg5 arg6 harg6 arg7 harg7 arg8 harg8 arg9 harg9 arg10 harg10 v1350 v1384 v1392 v1393 v1394
  let ⟨v1464, v1472, v1473, v1474⟩ : Σ' (v1464 : FVec F S96x128 .f32) (v1472 : FVec F S96x128 .f32) (v1473 : Vec F S256x256 .fp8e4m3), Vec F S1x192x256 .fp8e4m3 ← k0_part121 i arg1 harg1 arg2 harg2 arg3 harg3 arg4 harg4 arg5 harg5 arg6 harg6 arg7 harg7 arg8 harg8 arg9 harg9 arg10 harg10 v1350 v1424 v1432 v1433 v1434
  let ⟨v1504, v1512, v1513, v1514⟩ : Σ' (v1504 : FVec F S96x128 .f32) (v1512 : FVec F S96x128 .f32) (v1513 : Vec F S256x256 .fp8e4m3), Vec F S1x192x256 .fp8e4m3 ← k0_part122 i arg1 harg1 arg2 harg2 arg3 harg3 arg4 harg4 arg5 harg5 arg6 harg6 arg7 harg7 arg8 harg8 arg9 harg9 arg10 harg10 v1350 v1464 v1472 v1473 v1474
  let ⟨v1544, v1552, v1553, v1554⟩ : Σ' (v1544 : FVec F S96x128 .f32) (v1552 : FVec F S96x128 .f32) (v1553 : Vec F S256x256 .fp8e4m3), Vec F S1x192x256 .fp8e4m3 ← k0_part123 i arg1 harg1 arg2 harg2 arg3 harg3 arg4 harg4 arg5 harg5 arg6 harg6 arg7 harg7 arg8 harg8 arg9 harg9 arg10 harg10 v1350 v1504 v1512 v1513 v1514
  let ⟨v1584, v1592, v1593, v1594⟩ : Σ' (v1584 : FVec F S96x128 .f32) (v1592 : FVec F S96x128 .f32) (v1593 : Vec F S256x256 .fp8e4m3), Vec F S1x192x256 .fp8e4m3 ← k0_part124 i arg1 harg1 arg2 harg2 arg3 harg3 arg4 harg4 arg5 harg5 arg6 harg6 arg7 harg7 arg8 harg8 arg9 harg9 arg10 harg10 v1350 v1544 v1552 v1553 v1554
  let ⟨v1624, v1632, v1633, v1634⟩ : Σ' (v1624 : FVec F S96x128 .f32) (v1632 : FVec F S96x128 .f32) (v1633 : Vec F S256x256 .fp8e4m3), Vec F S1x192x256 .fp8e4m3 ← k0_part125 i arg1 harg1 arg2 harg2 arg3 harg3 arg4 harg4 arg5 harg5 arg6 harg6 arg7 harg7 arg8 harg8 arg9 harg9 arg10 harg10 v1350 v1584 v1592 v1593 v1594
  let ⟨v1664, v1672, v1673, v1674⟩ : Σ' (v1664 : FVec F S96x128 .f32) (v1672 : FVec F S96x128 .f32) (v1673 : Vec F S256x256 .fp8e4m3), Vec F S1x192x256 .fp8e4m3 ← k0_part126 i arg1 harg1 arg2 harg2 arg3 harg3 arg4 harg4 arg5 harg5 arg6 harg6 arg7 harg7 arg8 harg8 arg9 harg9 arg10 harg10 v1350 v1624 v1632 v1633 v1634
  let ⟨v1704, v1712, v1713, v1714⟩ : Σ' (v1704 : FVec F S96x128 .f32) (v1712 : FVec F S96x128 .f32) (v1713 : Vec F S256x256 .fp8e4m3), Vec F S1x192x256 .fp8e4m3 ← k0_part127 i arg1 harg1 arg2 harg2 arg3 harg3 arg4 harg4 arg5 harg5 arg6 harg6 arg7 harg7 arg8 harg8 arg9 harg9 arg10 harg10 v1350 v1664 v1672 v1673 v1674
  let ⟨v1744, v1752, v1753, v1754⟩ : Σ' (v1744 : FVec F S96x128 .f32) (v1752 : FVec F S96x128 .f32) (v1753 : Vec F S256x256 .fp8e4m3), Vec F S1x192x256 .fp8e4m3 ← k0_part128 i arg1 harg1 arg2 harg2 arg3 harg3 arg4 harg4 arg5 harg5 arg6 harg6 arg7 harg7 arg8 harg8 arg9 harg9 arg10 harg10 v1350 v1704 v1712 v1713 v1714
  let ⟨v1784, v1792, v1793, v1794⟩ : Σ' (v1784 : FVec F S96x128 .f32) (v1792 : FVec F S96x128 .f32) (v1793 : Vec F S256x256 .fp8e4m3), Vec F S1x192x256 .fp8e4m3 ← k0_part129 i arg1 harg1 arg2 harg2 arg3 harg3 arg4 harg4 arg5 harg5 arg6 harg6 arg7 harg7 arg8 harg8 arg9 harg9 arg10 harg10 v1350 v1744 v1752 v1753 v1754
  let ⟨v1824, v1832, v1833, v1834⟩ : Σ' (v1824 : FVec F S96x128 .f32) (v1832 : FVec F S96x128 .f32) (v1833 : Vec F S256x256 .fp8e4m3), Vec F S1x192x256 .fp8e4m3 ← k0_part130 i arg1 harg1 arg2 harg2 arg3 harg3 arg4 harg4 arg5 harg5 arg6 harg6 arg7 harg7 arg8 harg8 arg9 harg9 arg10 harg10 v1350 v1784 v1792 v1793 v1794
  let ⟨v1864, v1872, v1873, v1874⟩ : Σ' (v1864 : FVec F S96x128 .f32) (v1872 : FVec F S96x128 .f32) (v1873 : Vec F S256x256 .fp8e4m3), Vec F S1x192x256 .fp8e4m3 ← k0_part131 i arg1 harg1 arg2 harg2 arg3 harg3 arg4 harg4 arg5 harg5 arg6 harg6 arg7 harg7 arg8 harg8 arg9 harg9 arg10 harg10 v1350 v1824 v1832 v1833 v1834
  let ⟨v1904, v1912, v1913, v1914⟩ : Σ' (v1904 : FVec F S96x128 .f32) (v1912 : FVec F S96x128 .f32) (v1913 : Vec F S256x256 .fp8e4m3), Vec F S1x192x256 .fp8e4m3 ← k0_part132 i arg1 harg1 arg2 harg2 arg3 harg3 arg4 harg4 arg5 harg5 arg6 harg6 arg7 harg7 arg8 harg8 arg9 harg9 arg10 harg10 v1350 v1864 v1872 v1873 v1874
  let ⟨v1944, v1952, v1953, v1954⟩ : Σ' (v1944 : FVec F S96x128 .f32) (v1952 : FVec F S96x128 .f32) (v1953 : Vec F S256x256 .fp8e4m3), Vec F S1x192x256 .fp8e4m3 ← k0_part133 i arg1 harg1 arg2 harg2 arg3 harg3 arg4 harg4 arg5 harg5 arg6 harg6 arg7 harg7 arg8 harg8 arg9 harg9 arg10 harg10 v1350 v1904 v1912 v1913 v1914
  let ⟨v1993, v1995, c128_i32_946, v1996⟩ : Σ' (v1993 : FVec F S96x256 .f32) (v1995 : BitVec 32) (c128_i32_946 : BitVec 32), BitVec 32 ← k0_part134 i arg1 harg1 arg2 harg2 arg3 harg3 arg4 harg4 arg5 harg5 arg6 harg6 arg7 harg7 arg8 harg8 arg9 harg9 arg10 harg10 arg0 v1350 v1944 v1952 v1953 v1954
  let ⟨v2012, v2014, v2018, v2028, v2035⟩ : Σ' (v2012 : BitVec 32) (v2014 : FVec F S96x128 .f32) (v2018 : FVec F S192x256 .f32) (v2028 : FVec F S96x128 .f32), FVec F S96x128 .f32 ← k0_part135 i arg1 harg1 arg2 harg2 arg3 harg3 arg4 harg4 arg5 harg5 arg6 harg6 arg7 harg7 arg8 harg8 arg9 harg9 arg10 harg10 v1995 c128_i32_946 v1996
  let ⟨v2054, v2058, v2068, v2075⟩ : Σ' (v2054 : FVec F S96x128 .f32) (v2058 : FVec F S192x256 .f32) (v2068 : FVec F S96x128 .f32), FVec F S96x128 .f32 ← k0_part136 i arg1 harg1 arg2 harg2 arg3 harg3 arg4 harg4 arg5 harg5 arg6 harg6 arg7 harg7 arg8 harg8 arg9 harg9 arg10 harg10 v2012 v2014 v2018 v2028 v2035
  let ⟨v2094, v2098, v2108, v2115⟩ : Σ' (v2094 : FVec F S96x128 .f32) (v2098 : FVec F S192x256 .f32) (v2108 : FVec F S96x128 .f32), FVec F S96x128 .f32 ← k0_part137 i arg1 harg1 arg2 harg2 arg3 harg3 arg4 harg4 arg5 harg5 arg6 harg6 arg7 harg7 arg8 harg8 arg9 harg9 arg10 harg10 v2012 v2054 v2058 v2068 v2075
  let ⟨v2134, v2138, v2148, v2155⟩ : Σ' (v2134 : FVec F S96x128 .f32) (v2138 : FVec F S192x256 .f32) (v2148 : FVec F S96x128 .f32), FVec F S96x128 .f32 ← k0_part138 i arg1 harg1 arg2 harg2 arg3 harg3 arg4 harg4 arg5 harg5 arg6 harg6 arg7 harg7 arg8 harg8 arg9 harg9 arg10 harg10 v2012 v2094 v2098 v2108 v2115
  let ⟨v2174, v2178, v2188, v2195⟩ : Σ' (v2174 : FVec F S96x128 .f32) (v2178 : FVec F S192x256 .f32) (v2188 : FVec F S96x128 .f32), FVec F S96x128 .f32 ← k0_part139 i arg1 harg1 arg2 harg2 arg3 harg3 arg4 harg4 arg5 harg5 arg6 harg6 arg7 harg7 arg8 harg8 arg9 harg9 arg10 harg10 v2012 v2134 v2138 v2148 v2155
  let ⟨v2214, v2218, v2228, v2235⟩ : Σ' (v2214 : FVec F S96x128 .f32) (v2218 : FVec F S192x256 .f32) (v2228 : FVec F S96x128 .f32), FVec F S96x128 .f32 ← k0_part140 i arg1 harg1 arg2 harg2 arg3 harg3 arg4 harg4 arg5 harg5 arg6 harg6 arg7 harg7 arg8 harg8 arg9 harg9 arg10 harg10 v2012 v2174 v2178 v2188 v2195
  let ⟨v2254, v2258, v2268, v2275⟩ : Σ' (v2254 : FVec F S96x128 .f32) (v2258 : FVec F S192x256 .f32) (v2268 : FVec F S96x128 .f32), FVec F S96x128 .f32 ← k0_part141 i arg1 harg1 arg2 harg2 arg3 harg3 arg4 harg4 arg5 harg5 arg6 harg6 arg7 harg7 arg8 harg8 arg9 harg9 arg10 harg10 v2012 v2214 v2218 v2228 v2235
  let ⟨v2294, v2298, v2308, v2315⟩ : Σ' (v2294 : FVec F S96x128 .f32) (v2298 : FVec F S192x256 .f32) (v2308 : FVec F S96x128 .f32), FVec F S96x128 .f32 ← k0_part142 i arg1 harg1 arg2 harg2 arg3 harg3 arg4 harg4 arg5 harg5 arg6 harg6 arg7 harg7 arg8 harg8 arg9 harg9 arg10 harg10 v2012 v2254 v2258 v2268 v2275
  let ⟨v2334, v2338, v2348, v2355⟩ : Σ' (v2334 : FVec F S96x128 .f32) (v2338 : FVec F S192x256 .f32) (v2348 : FVec F S96x128 .f32), FVec F S96x128 .f32 ← k0_part143 i arg1 harg1 arg2 harg2 arg3 harg3 arg4 harg4 arg5 harg5 arg6 harg6 arg7 harg7 arg8 harg8 arg9 harg9 arg10 harg10 v2012 v2294 v2298 v2308 v2315
  let ⟨v2374, v2378, v2388, v2395⟩ : Σ' (v2374 : FVec F S96x128 .f32) (v2378 : FVec F S192x256 .f32) (v2388 : FVec F S96x128 .f32), FVec F S96x128 .f32 ← k0_part144 i arg1 harg1 arg2 harg2 arg3 harg3 arg4 harg4 arg5 harg5 arg6 harg6 arg7 harg7 arg8 harg8 arg9 harg9 arg10 harg10 v2012 v2334 v2338 v2348 v2355
  let ⟨v2414, v2418, v2428, v2435⟩ : Σ' (v2414 : FVec F S96x128 .f32) (v2418 : FVec F S192x256 .f32) (v2428 : FVec F S96x128 .f32), FVec F S96x128 .f32 ← k0_part145 i arg1 harg1 arg2 harg2 arg3 harg3 arg4 harg4 arg5 harg5 arg6 harg6 arg7 harg7 arg8 harg8 arg9 harg9 arg10 harg10 v2012 v2374 v2378 v2388 v2395
  let ⟨v2454, v2458, v2468, v2475⟩ : Σ' (v2454 : FVec F S96x128 .f32) (v2458 : FVec F S192x256 .f32) (v2468 : FVec F S96x128 .f32), FVec F S96x128 .f32 ← k0_part146 i arg1 harg1 arg2 harg2 arg3 harg3 arg4 harg4 arg5 harg5 arg6 harg6 arg7 harg7 arg8 harg8 arg9 harg9 arg10 harg10 v2012 v2414 v2418 v2428 v2435
  let ⟨v2494, v2498, v2508, v2515⟩ : Σ' (v2494 : FVec F S96x128 .f32) (v2498 : FVec F S192x256 .f32) (v2508 : FVec F S96x128 .f32), FVec F S96x128 .f32 ← k0_part147 i arg1 harg1 arg2 harg2 arg3 harg3 arg4 harg4 arg5 harg5 arg6 harg6 arg7 harg7 arg8 harg8 arg9 harg9 arg10 harg10 v2012 v2454 v2458 v2468 v2475
  let ⟨v2534, v2538, v2548, v2555⟩ : Σ' (v2534 : FVec F S96x128 .f32) (v2538 : FVec F S192x256 .f32) (v2548 : FVec F S96x128 .f32), FVec F S96x128 .f32 ← k0_part148 i arg1 harg1 arg2 harg2 arg3 harg3 arg4 harg4 arg5 harg5 arg6 harg6 arg7 harg7 arg8 harg8 arg9 harg9 arg10 harg10 v2012 v2494 v2498 v2508 v2515
  let ⟨v2574, v2578, v2588, v2595⟩ : Σ' (v2574 : FVec F S96x128 .f32) (v2578 : FVec F S192x256 .f32) (v2588 : FVec F S96x128 .f32), FVec F S96x128 .f32 ← k0_part149 i arg1 harg1 arg2 harg2 arg3 harg3 arg4 harg4 arg5 harg5 arg6 harg6 arg7 harg7 arg8 harg8 arg9 harg9 arg10 harg10 v2012 v2534 v2538 v2548 v2555
  let ⟨v2614, v2618, v2628, v2635⟩ : Σ' (v2614 : FVec F S96x128 .f32) (v2618 : FVec F S192x256 .f32) (v2628 : FVec F S96x128 .f32), FVec F S96x128 .f32 ← k0_part150 i arg1 harg1 arg2 harg2 arg3 harg3 arg4 harg4 arg5 harg5 arg6 harg6 arg7 harg7 arg8 harg8 arg9 harg9 arg10 harg10 v2012 v2574 v2578 v2588 v2595
  let v2637 : Vec F S1x96x128 .f32 ← Prog.lift (.load arg10 (Rect.unit (s := S32x96x128) ![31, 0, 0] S1x96x128.size inb_S32x96x128_S1x96x128_31_0_0).toLoadRect (View.loadsAt_vmem h_S1x96x128))
  let v2643 : Elt F .f32 ← smemLoad arg5 (Rect.unit (s := S112x32) (k0_off32 i 256#32 0#32) S1x1.size (k0_off32_inb i 1 0)) numel1_S1x1 rfl
  let v2651 : Elt F .f32 ← smemLoad arg5 (Rect.unit (s := S112x32) (k0_off32 i 256#32 1#32) S1x1.size (k0_off32_inb i 1 1)) numel1_S1x1 rfl
  let v2660 : Vec F S96x256 .bf16 ← Prog.lift (.load arg6 (Rect.unit (s := S96x512) ![0, 256] S96x256.size inb_S96x512_S96x256_0_256).toLoadRect (View.loadsAt_vmem h_S96x256))
  Prog.lift (.store arg6 (Rect.unit (s := S96x512) ![0, 256] S96x256.size inb_S96x512_S96x256_0_256) (k0_pay1 v1993 v2614 v2618 v2628 v2635 v2637 v2643 v2651) Finset.univ (View.stores_vmem h_S96x256 (harg6.storeExact_slice rfl _ packedbf16_S96x512_S96x256_0_256) (fun _ => rfl)) (.inl rfl))
  pure ⟨⟩

set_option maxHeartbeats 1600000 in
/-- The body is `quant` where the grid coordinate is 0, then `main`. -/
theorem body_eq (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    cc0__body (F := F) i arg1 harg1 arg2 harg2 arg3 harg3 arg4 harg4 arg5 harg5 arg6 harg6 arg7 harg7 arg8 harg8 arg9 harg9 arg10 harg10
      = (if k0_cond1 i = 1#1 then quant i arg1 harg1 arg2 harg2 arg3 harg3 arg4 harg4 arg5 harg5 arg6 harg6 arg7 harg7 arg8 harg8 arg9 harg9 arg10 harg10 else pure ⟨⟩) >>= fun _ => main i arg1 harg1 arg2 harg2 arg3 harg3 arg4 harg4 arg5 harg5 arg6 harg6 arg7 harg7 arg8 harg8 arg9 harg9 arg10 harg10 := by
  by_cases h : k0_cond1 i = 1#1
  · simp only [cc0__body_eq_skeleton, cc0__body_skel, k0_part151_eq_skeleton, k0_part151_skel, k0_part85_eq_skeleton,
      k0_part85_skel, dif_pos h, if_pos h, quant, main, bind_assoc, pure_bind]
  · simp only [cc0__body_eq_skeleton, cc0__body_skel, k0_part151_eq_skeleton, k0_part151_skel, k0_part85_eq_skeleton,
      k0_part85_skel, dif_neg h, if_neg h, main, bind_assoc, pure_bind]

end Cert.KernelIdeal.Hand

end
-- ==== Proof.MainRun.lean ====
/- The run of `main`, every grid point's stage: from the point's weight blocks, the weight scales and the two scratch
   buffers at given contents, it leaves the output block at contents that these determine (`mainRun`, its witness). -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4980000 in
/-- `main` from the weight blocks at `x1` and `x2`, the weight scales at `x3` and `x4` and the scratch buffers at `L` and
    `X`: these stay, and the output block's buffer ends at the run's witness. -/
def mainRun (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)
    (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) :
    { P : List (View.Piece (Elt F) S96x512 .bf16) // ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare L ∗ owns (c : Thread nD τ) arg10 fullShare X
            ∗ (iprop(owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f P) ∗ owns (c : Thread nD τ) arg9 fullShare L ∗ owns (c : Thread nD τ) arg10 fullShare X) -∗ K ⟨⟩))
          ⊢ wp frame (wpE (defs₀ (F := F)) Variants.none c none) E (main i arg1 harg1 arg2 harg2 arg3 harg3 arg4 harg4 arg5 harg5 arg6 harg6 arg7 harg7 arg8 harg8 arg9 harg9 arg10 harg10) K } := by
  refine ⟨?_, fun E K => ?run⟩
  case run =>
    unfold main
    simp only [k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf1; obtain rfl := harg3.eq_unread hf2; obtain rfl := harg4.eq_unread hf3
    obtain rfl := harg5.eq_unread hf4; obtain rfl := harg9.eq_unread hs0; obtain rfl := harg10.eq_unread hs1
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; isplitr; · ipureintro; exact harg9.read_unread _
      iexact HS0
    iexists _; isplitr; · ipureintro; exact harg10.read_unread _
    iexact HS1

end Cert.KernelIdeal.Hand

end
-- ==== Proof.QuantRun.lean ====
/- The run of `quant`, the first grid point's own stage: from the activations at given contents, it leaves the code and
   scale outputs and the two scratch buffers at contents that these determine (`quantRun`, its witnesses). -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 7340000 in
/-- `quant` from the activations at `x0`: they stay, and the codes' buffer, the scales' and the two scratch buffers end at
    the run's witnesses, whatever they held. -/
def quantRun (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)
    (x0 : Vec F S96x4096 .bf16) :
    Σ' (P6 : List (View.Piece (Elt F) S96x4096 .fp8e4m3)) (P7 : List (View.Piece (Elt F) S96x32 .f32))
      (PL : List (View.Piece (Elt F) S16x192x256 .fp8e4m3)), { PX : List (View.Piece (Elt F) S32x96x128 .f32) // ∀ (E : Set ℕ) (K : PUnit → sProp 𝕄),
        iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ (∃ f, arg7.view.loc (c : Thread nD τ) ↦[arg7.view.set]{fullShare} arg7.view.writes (Elt F) f P6) ∗ (∃ f, arg8.view.loc (c : Thread nD τ) ↦[arg8.view.set]{fullShare} arg8.view.writes (Elt F) f P7) ∗ (∃ f, arg9.view.loc (c : Thread nD τ) ↦[arg9.view.set]{fullShare} arg9.view.writes (Elt F) f PL) ∗ (∃ f, arg10.view.loc (c : Thread nD τ) ↦[arg10.view.set]{fullShare} arg10.view.writes (Elt F) f PX)) -∗ K ⟨⟩))
          ⊢ wp frame (wpE (defs₀ (F := F)) Variants.none c none) E (quant i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold quant
    simp only [k0_part83_eq_skeleton, k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%d6, %f6, -, H6⟩, ⟨%d7, %f7, -, H7⟩, ⟨%ds0, %fs0, -, HS0⟩, ⟨%ds1, %fs1, -, HS1⟩, Hk⟩
    obtain rfl := harg1.eq_unread hf0
    sl_exec
    sl_step
    iapply Hk
    isplitl [H0]
    · iexists _; isplitr; · ipureintro; exact harg1.read_unread _
      iexact H0
    isplitl [H6]
    · iexists _; iexact H6
    isplitl [H7]
    · iexists _; iexact H7
    isplitl [HS0]
    · iexists _; iexact HS0
    iexists _; iexact HS1

end Cert.KernelIdeal.Hand

end
-- ==== Proof.Stages.lean ====
/- What the two stages' runs leave in the buffers they write, as contents: the written tiles cover each buffer, so what it
   held before is gone (`main_spec`, `quant_spec`). -/
module

public import proofs.«01_k».proof.Proof.MainRun
public import proofs.«01_k».proof.Proof.QuantRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Runs
variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

/-- The two column tiles `main` stores cover the output block. -/
theorem main_tiled (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) :
    View.Piece.tiledL (mainRun c i arg1 harg1 arg2 harg2 arg3 harg3 arg4 harg4 arg5 harg5 arg6 harg6 arg7 harg7 arg8 harg8 arg9 harg9 arg10 harg10 x1 x2 x3 x4 L X).1 S96x256.size = true := by sl_kernel_rfl

/-- `quant`'s code tiles cover the codes' buffer, -/
theorem codes_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).1 S96x128.size = true := by sl_kernel_rfl
/-- its scales are stored whole, -/
theorem scales_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.1 S96x32.size = true := by sl_kernel_rfl
/-- its stacked code tiles and the zero tiles beside them cover the first scratch buffer, -/
theorem lhs_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.2.1 S1x96x128.size = true := by sl_kernel_rfl
/-- and its broadcast scales cover the second. -/
theorem xs_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.2.2.1 S1x96x128.size = true := by sl_kernel_rfl

/-- The contents `main` leaves in the output block. -/
def mainOut (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) : Vec F S96x512 .bf16 := View.canon (mainRun c i arg1 harg1 arg2 harg2 arg3 harg3 arg4 harg4 arg5 harg5 arg6 harg6 arg7 harg7 arg8 harg8 arg9 harg9 arg10 harg10 x1 x2 x3 x4 L X).1
/-- The contents `quant` leaves: the codes, -/
def codesOut (x0 : Vec F S96x4096 .bf16) : Vec F S96x4096 .fp8e4m3 := View.canon (quantRun c i arg1 harg1 arg2 harg2 arg3 harg3 arg4 harg4 arg5 harg5 arg6 harg6 arg7 harg7 arg8 harg8 arg9 harg9 arg10 harg10 x0).1
/-- the scales, -/
def scalesOut (x0 : Vec F S96x4096 .bf16) : Vec F S96x32 .f32 := View.canon (quantRun c i arg1 harg1 arg2 harg2 arg3 harg3 arg4 harg4 arg5 harg5 arg6 harg6 arg7 harg7 arg8 harg8 arg9 harg9 arg10 harg10 x0).2.1
/-- the stacked codes, -/
def lhsOut (x0 : Vec F S96x4096 .bf16) : Vec F S16x192x256 .fp8e4m3 := View.canon (quantRun c i arg1 harg1 arg2 harg2 arg3 harg3 arg4 harg4 arg5 harg5 arg6 harg6 arg7 harg7 arg8 harg8 arg9 harg9 arg10 harg10 x0).2.2.1
/-- the broadcast scales. -/
def xsOut (x0 : Vec F S96x4096 .bf16) : Vec F S32x96x128 .f32 := View.canon (quantRun c i arg1 harg1 arg2 harg2 arg3 harg3 arg4 harg4 arg5 harg5 arg6 harg6 arg7 harg7 arg8 harg8 arg9 harg9 arg10 harg10 x0).2.2.2.1

/-- `main`, the output block at its contents. -/
theorem main_spec (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) (E : Set ℕ) (K : PUnit → sProp 𝕄) :
    iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare L ∗ owns (c : Thread nD τ) arg10 fullShare X
        ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (mainOut c i arg1 harg1 arg2 harg2 arg3 harg3 arg4 harg4 arg5 harg5 arg6 harg6 arg7 harg7 arg8 harg8 arg9 harg9 arg10 harg10 x1 x2 x3 x4 L X) ∗ owns (c : Thread nD τ) arg9 fullShare L ∗ owns (c : Thread nD τ) arg10 fullShare X) -∗ K ⟨⟩))
      ⊢ wp frame (wpE (defs₀ (F := F)) Variants.none c none) E (main i arg1 harg1 arg2 harg2 arg3 harg3 arg4 harg4 arg5 harg5 arg6 harg6 arg7 harg7 arg8 harg8 arg9 harg9 arg10 harg10) K := by
  iintro ⟨H1, H2, H3, H4, H5, HS0, HS1, Hk⟩
  iapply ((mainRun c i arg1 harg1 arg2 harg2 arg3 harg3 arg4 harg4 arg5 harg5 arg6 harg6 arg7 harg7 arg8 harg8 arg9 harg9 arg10 harg10 x1 x2 x3 x4 L X).2 E K)
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H1, H2, H3, H4, ⟨%f5, H5⟩, HS0, HS1⟩
  iapply Hk
  isplitl [H1]; · iexact H1
  isplitl [H2]; · iexact H2
  isplitl [H3]; · iexact H3
  isplitl [H4]; · iexact H4
  isplitl [H5]
  · unfold owns; iexists _; isplitr; swap; · iexact H5
    ipureintro
    exact View.read_writes_eq_canon _ _ _ (View.cover_of_tiledL _ S96x256.size (main_tiled c i arg1 harg1 arg2 harg2 arg3 harg3 arg4 harg4 arg5 harg5 arg6 harg6 arg7 harg7 arg8 harg8 arg9 harg9 arg10 harg10 x1 x2 x3 x4 L X))
  isplitl [HS0]; · iexact HS0
  iexact HS1

/-- `quant`, the four buffers it writes at their contents. -/
theorem quant_spec (x0 : Vec F S96x4096 .bf16) (E : Set ℕ) (K : PUnit → sProp 𝕄) :
    iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg7 fullShare (codesOut c i arg1 harg1 arg2 harg2 arg3 harg3 arg4 harg4 arg5 harg5 arg6 harg6 arg7 harg7 arg8 harg8 arg9 harg9 arg10 harg10 x0) ∗ owns (c : Thread nD τ) arg8 fullShare (scalesOut c i arg1 harg1 arg2 harg2 arg3 harg3 arg4 harg4 arg5 harg5 arg6 harg6 arg7 harg7 arg8 harg8 arg9 harg9 arg10 harg10 x0) ∗ owns (c : Thread nD τ) arg9 fullShare (lhsOut c i arg1 harg1 arg2 harg2 arg3 harg3 arg4 harg4 arg5 harg5 arg6 harg6 arg7 harg7 arg8 harg8 arg9 harg9 arg10 harg10 x0) ∗ owns (c : Thread nD τ) arg10 fullShare (xsOut c i arg1 harg1 arg2 harg2 arg3 harg3 arg4 harg4 arg5 harg5 arg6 harg6 arg7 harg7 arg8 harg8 arg9 harg9 arg10 harg10 x0)) -∗ K ⟨⟩))
      ⊢ wp frame (wpE (defs₀ (F := F)) Variants.none c none) E (quant i arg1 harg1 arg2 harg2 arg3 harg3 arg4 harg4 arg5 harg5 arg6 harg6 arg7 harg7 arg8 harg8 arg9 harg9 arg10 harg10) K := by
  iintro ⟨H0, H6, H7, HS0, HS1, Hk⟩
  iapply ((quantRun c i arg1 harg1 arg2 harg2 arg3 harg3 arg4 harg4 arg5 harg5 arg6 harg6 arg7 harg7 arg8 harg8 arg9 harg9 arg10 harg10 x0).2.2.2.2 E K)
  isplitl [H0]; · iexact H0
  isplitl [H6]; · iexact H6
  isplitl [H7]; · iexact H7
  isplitl [HS0]; · iexact HS0
  isplitl [HS1]; · iexact HS1
  iintro ⟨H0, ⟨%f6, H6⟩, ⟨%f7, H7⟩, ⟨%g0, HS0⟩, ⟨%g1, HS1⟩⟩
  iapply Hk
  isplitl [H0]; · iexact H0
  isplitl [H6]
  · unfold owns; iexists _; isplitr; swap; · iexact H6
    ipureintro
    exact View.read_writes_eq_canon _ _ _ (View.cover_of_tiledL _ S96x128.size (codes_tiled c i arg1 harg1 arg2 harg2 arg3 harg3 arg4 harg4 arg5 harg5 arg6 harg6 arg7 harg7 arg8 harg8 arg9 harg9 arg10 harg10 x0))
  isplitl [H7]
  · unfold owns; iexists _; isplitr; swap; · iexact H7
    ipureintro
    exact View.read_writes_eq_canon _ _ _ (View.cover_of_tiledL _ S96x32.size (scales_tiled c i arg1 harg1 arg2 harg2 arg3 harg3 arg4 harg4 arg5 harg5 arg6 harg6 arg7 harg7 arg8 harg8 arg9 harg9 arg10 harg10 x0))
  isplitl [HS0]
  · unfold owns; iexists _; isplitr; swap; · iexact HS0
    ipureintro
    exact View.read_writes_eq_canon _ _ _ (View.cover_of_tiledL _ S1x96x128.size (lhs_tiled c i arg1 harg1 arg2 harg2 arg3 harg3 arg4 harg4 arg5 harg5 arg6 harg6 arg7 harg7 arg8 harg8 arg9 harg9 arg10 harg10 x0))
  unfold owns; iexists _; isplitr; swap; · iexact HS1
  ipureintro
  exact View.read_writes_eq_canon _ _ _ (View.cover_of_tiledL _ S1x96x128.size (xs_tiled c i arg1 harg1 arg2 harg2 arg3 harg3 arg4 harg4 arg5 harg5 arg6 harg6 arg7 harg7 arg8 harg8 arg9 harg9 arg10 harg10 x0))

end Runs

end Cert.KernelIdeal.Hand

end
-- ==== Proof.Frame.lean ====
/- The pipeline's proof data with every output named, the body's triple at every grid point, and the run of the whole
   kernel: what each array holds after it. -/
module

public import proofs.«01_k».proof.Proof.Stages
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Each window's current staging memref at point `t`, spelled as the pipeline passes it (`bodyAt0`), and its wholeness. -/
abbrev ms0_0 (t : Fin cfg0.N) : Memref sig .tc .vmem S96x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S112x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S112x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x192x256 .fp8e4m3 := Memref.whole cc0_scratch0
abbrev scM0_1 : Memref sig .tc .vmem S32x96x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold -/

/-- The first grid point. -/
def t0 : Fin cfg0.N := ⟨0, lt_of_lt_of_eq (by decide : 0 < 28) N_0.symm⟩

/-- The codes, the scales and the scratch buffers as the first point leaves them, -/
def codesAt (c : Dev nD) : Vec F S96x4096 .fp8e4m3 := codesOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def scalesAt (c : Dev nD) : Vec F S96x32 .f32 := scalesOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def lhsAt (c : Dev nD) : Vec F S16x192x256 .fp8e4m3 := lhsOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def xsAt (c : Dev nD) : Vec F S32x96x128 .f32 := xsOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
/-- and the output block as point `t` leaves it. -/
def mainAt (c : Dev nD) (t : Fin cfg0.N) : Vec F S96x512 .bf16 :=
  mainOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 1 t) (iblk m c 2 t) (iblk m c 3 t) (iblk m c 4 t) (lhsAt m c) (xsAt m c)

/-- What the core holds beside the windows from the second point on: the scratch buffers as the first point left them. -/
def ΦS (c : Dev nD) : sProp 𝕄 :=
  iprop(iprop(owns (c : Thread nD τ) scM0_0 fullShare (lhsAt m c) ∗ owns (c : Thread nD τ) scM0_1 fullShare (xsAt m c)) ∗ (∃ r, prngReg c r))

/-- The proof data: inputs stay at their blocks, the outputs and the scratch buffers as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => codesAt m c
    | ⟨7, _⟩ => scalesAt m c
  Φ t := if t.val = 0 then Pipeline.ΦA spec0 c else ΦS m c
  q _ := fullShare
  owed _ := 0

theorem Φ_zero (c : Dev nD) (t : Fin (cfg0.N + 1)) (h : t.val = 0) : (dats m 0 c).Φ t = Pipeline.ΦA spec0 c := by
  dsimp only [dats]; exact if_pos h
theorem Φ_pos (c : Dev nD) (t : Fin (cfg0.N + 1)) (h : ¬ t.val = 0) : (dats m 0 c).Φ t = ΦS m c := by
  dsimp only [dats]; exact if_neg h

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = mainAt m c t := by dsimp only [dats]
theorem after0_6 (c : Dev nD) (t : Fin cfg0.N) : (dats m 0 c).after 6 t = codesAt m c := by dsimp only [dats]
theorem after0_7 (c : Dev nD) (t : Fin cfg0.N) : (dats m 0 c).after 7 t = scalesAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6's buffer is stored at the first point only, -/
theorem live0_6 (t : Fin cfg0.N) (h : t.val % 28 = 0) : cfg0.idle 6 (grid0.coords t) = false := by
  show (!(k0_cond1 (grid0.coords t) == 1#1)) = false
  rw [(hcond0_0 t).mpr h]; rfl
theorem idle0_6 (t : Fin cfg0.N) (h : ¬ t.val % 28 = 0) : cfg0.idle 6 (grid0.coords t) = true := by
  show (!(k0_cond1 (grid0.coords t) == 1#1)) = true
  rw [beq_false_of_ne fun e => h ((hcond0_0 t).mp e)]; rfl
theorem fetchOut0_6 (t : Fin cfg0.N) : (cfg0.win 6).fetch t = false := rfl
theorem noflush0_6 (t : Fin cfg0.N) (h : ¬ t.val % 28 = 27) : (cfg0.win 6).flush t = false :=
  Bool.eq_false_iff.mpr fun e => h ((flush0_6 t).mp e)
/-- so every later point finds there what the first left. -/
theorem before0_6 (c : Dev nD) : ∀ (n : ℕ) (t : Fin cfg0.N), t.val = n + 1 → ∀ d, (dats m 0 c).before 6 t d = codesAt m c
  | 0, t, ht, d => by
    have hN : t.val < 28 := lt_of_lt_of_eq t.isLt N_0
    rw [(dats m 0 c).before_of_pos 6 t (by omega) (fetchOut0_6 t) d, noflush0_6 _ (by show ¬ (t.val - 1) % 28 = 27; omega), if_neg Bool.false_ne_true]
    unfold Dat.left
    rw [live0_6 _ (by show (t.val - 1) % 28 = 0; omega)]
    exact after0_6 m c _
  | n + 1, t, ht, d => by
    have hN : t.val < 28 := lt_of_lt_of_eq t.isLt N_0
    rw [(dats m 0 c).before_of_pos 6 t (by omega) (fetchOut0_6 t) d, noflush0_6 _ (by show ¬ (t.val - 1) % 28 = 27; omega), if_neg Bool.false_ne_true]
    unfold Dat.left
    rw [idle0_6 _ (by show ¬ (t.val - 1) % 28 = 0; omega)]
    exact before0_6 c n ⟨t.val - 1, by omega⟩ (by show t.val - 1 = n + 1; omega) d

/-- Window 7's buffer is stored at the first point only, -/
theorem live0_7 (t : Fin cfg0.N) (h : t.val % 28 = 0) : cfg0.idle 7 (grid0.coords t) = false := by
  show (!(k0_cond1 (grid0.coords t) == 1#1)) = false
  rw [(hcond0_0 t).mpr h]; rfl
theorem idle0_7 (t : Fin cfg0.N) (h : ¬ t.val % 28 = 0) : cfg0.idle 7 (grid0.coords t) = true := by
  show (!(k0_cond1 (grid0.coords t) == 1#1)) = true
  rw [beq_false_of_ne fun e => h ((hcond0_0 t).mp e)]; rfl
theorem fetchOut0_7 (t : Fin cfg0.N) : (cfg0.win 7).fetch t = false := rfl
theorem noflush0_7 (t : Fin cfg0.N) (h : ¬ t.val % 28 = 27) : (cfg0.win 7).flush t = false :=
  Bool.eq_false_iff.mpr fun e => h ((flush0_7 t).mp e)
/-- so every later point finds there what the first left. -/
theorem before0_7 (c : Dev nD) : ∀ (n : ℕ) (t : Fin cfg0.N), t.val = n + 1 → ∀ d, (dats m 0 c).before 7 t d = scalesAt m c
  | 0, t, ht, d => by
    have hN : t.val < 28 := lt_of_lt_of_eq t.isLt N_0
    rw [(dats m 0 c).before_of_pos 7 t (by omega) (fetchOut0_7 t) d, noflush0_7 _ (by show ¬ (t.val - 1) % 28 = 27; omega), if_neg Bool.false_ne_true]
    unfold Dat.left
    rw [live0_7 _ (by show (t.val - 1) % 28 = 0; omega)]
    exact after0_7 m c _
  | n + 1, t, ht, d => by
    have hN : t.val < 28 := lt_of_lt_of_eq t.isLt N_0
    rw [(dats m 0 c).before_of_pos 7 t (by omega) (fetchOut0_7 t) d, noflush0_7 _ (by show ¬ (t.val - 1) % 28 = 27; omega), if_neg Bool.false_ne_true]
    unfold Dat.left
    rw [idle0_7 _ (by show ¬ (t.val - 1) % 28 = 0; omega)]
    exact before0_7 c n ⟨t.val - 1, by omega⟩ (by show t.val - 1 = n + 1; omega) d

/-- What a later point must leave in window 6's buffer is what it found. -/
theorem keeps0_6 (c : Dev nD) (t : Fin cfg0.N) (h : ¬ t.val % 28 = 0) :
    (dats m 0 c).leavesExact 6 t = (iprop(owns (c : Thread nD τ) (ms0_6 t) fullShare (codesAt m c)) : sProp 𝕄)
      ∨ (dats m 0 c).leavesExact 6 t = (iprop(∃ d, owns (c : Thread nD τ) (ms0_6 t) fullShare ((dats m 0 c).before 6 t d)) : sProp 𝕄) := by
  by_cases hf : t.val % 28 = 27
  · left
    unfold Dat.leavesExact
    rw [idle0_6 t h, (flush0_6 t).mpr hf]
    show owns _ _ _ ((dats m 0 c).after 6 t) = _
    rw [after0_6]
  · right
    exact (dats m 0 c).leavesExact_idle 6 t (idle0_6 t h) (noflush0_6 t hf)

/-- What a later point must leave in window 7's buffer is what it found. -/
theorem keeps0_7 (c : Dev nD) (t : Fin cfg0.N) (h : ¬ t.val % 28 = 0) :
    (dats m 0 c).leavesExact 7 t = (iprop(owns (c : Thread nD τ) (ms0_7 t) fullShare (scalesAt m c)) : sProp 𝕄)
      ∨ (dats m 0 c).leavesExact 7 t = (iprop(∃ d, owns (c : Thread nD τ) (ms0_7 t) fullShare ((dats m 0 c).before 7 t d)) : sProp 𝕄) := by
  by_cases hf : t.val % 28 = 27
  · left
    unfold Dat.leavesExact
    rw [idle0_7 t h, (flush0_7 t).mpr hf]
    show owns _ _ _ ((dats m 0 c).after 7 t) = _
    rw [after0_7]
  · right
    exact (dats m 0 c).leavesExact_idle 7 t (idle0_7 t h) (noflush0_7 t hf)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the first point quantises and then computes, the others compute. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Φ_pos m c t.succ (Nat.succ_ne_zero _)]
  have hN : t.val < 28 := lt_of_lt_of_eq t.isLt (show cfg0.N = 28 from N_0)
  rw [body_eq]
  by_cases h0 : t.val % 28 = 0
  · have ht : t = t0 := Fin.ext (by show t.val = 0; omega)
    rw [Φ_zero m c t.castSucc (by show t.val = 0; omega), PhiA0_eq]
    rw [if_pos ((hcond0_0 t).mpr h0), wp_bind]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [show cfg0.idle 5 (grid0.coords t) = false from rfl], after0_5]
    rw [show (dats m 0 c).leavesExact 6 t = owns (c : Thread nD τ) (ms0_6 t) fullShare ((dats m 0 c).after 6 t) from by
      unfold Dat.leavesExact; rw [live0_6 t h0], after0_6]
    rw [show (dats m 0 c).leavesExact 7 t = owns (c : Thread nD τ) (ms0_7 t) fullShare ((dats m 0 c).after 7 t) from by
      unfold Dat.leavesExact; rw [live0_7 t h0], after0_7]
    subst ht
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (quant_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) Set.univ _)
    isplitl [H0]; · iexact H0
    isplitl [H6]; · iexists _; iexact H6
    isplitl [H7]; · iexists _; iexact H7
    isplitl [HS0]; · iexact HS0
    isplitl [HS1]; · iexact HS1
    iintro ⟨H0, H6, H7, HS0, HS1⟩
    iapply (main_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 1 t0) (iblk m c 2 t0) (iblk m c 3 t0) (iblk m c 4 t0) (lhsAt m c) (xsAt m c) Set.univ _)
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H1, H2, H3, H4, H5, HS0, HS1⟩
    isplitl [HS0 HS1 Hg]
    · unfold ΦS
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Φ_pos m c t.castSucc (by show ¬ t.val = 0; omega)]
    rw [if_neg (fun h => h0 ((hcond0_0 t).mp h)), pure_bind]
    have b6 : ∀ d, (dats m 0 c).before 6 t d = codesAt m c := before0_6 m c (t.val - 1) t (by omega)
    have b7 : ∀ d, (dats m 0 c).before 7 t d = scalesAt m c := before0_7 m c (t.val - 1) t (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [show cfg0.idle 5 (grid0.coords t) = false from rfl], after0_5]
    have e6 : (owns (c : Thread nD τ) (ms0_6 t) fullShare (codesAt m c) : sProp 𝕄) ⊢ (dats m 0 c).leavesExact 6 t := by
      rcases keeps0_6 m c t h0 with e | e
      · rw [e]
      · rw [e]; simp only [b6]; iintro H; iexists (codesAt m c); iexact H
    have e7 : (owns (c : Thread nD τ) (ms0_7 t) fullShare (scalesAt m c) : sProp 𝕄) ⊢ (dats m 0 c).leavesExact 7 t := by
      rcases keeps0_7 m c t h0 with e | e
      · rw [e]
      · rw [e]; simp only [b7]; iintro H; iexists (scalesAt m c); iexact H
    simp only [b6, b7]
    unfold ΦS
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (main_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 1 t) (iblk m c 2 t) (iblk m c 3 t) (iblk m c 4 t) (lhsAt m c) (xsAt m c) Set.univ _)
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply e6; iexact H6
    iapply e7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_first (c : Dev nD) : (Pipeline.ΦA spec0 c : sProp 𝕄) ⊢ (dats (F := F) m 0 c).Φ 0 := by
  rw [Φ_zero m c 0 rfl]
theorem Φ_last (c : Dev nD) : (dats (F := F) m 0 c).Φ (Fin.last cfg0.N) ⊢ (Pipeline.ΦA spec0 c : sProp 𝕄) := by
  rw [Φ_pos m c _ (by show ¬ cfg0.N = 0; rw [show cfg0.N = 28 from N_0]; decide), PhiA0_eq]
  unfold ΦS
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run: every array as the proof data say, every semaphore counter at zero. -/
theorem run_main_quiescent : θ_run defs (onTc (τ := τ) (Cert.KernelIdeal.main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ Cert.KernelIdeal.main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_first m) (hout := Φ_last m)

theorem run_main : θ_run defs (onTc (τ := τ) (Cert.KernelIdeal.main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the arguments end unchanged, the counters at zero. -/
theorem frame : θ_run defs (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KBody.lean ====
/- The kernel's body in two stages: `quant`, what the first grid point alone does (it quantises the activations into the
   code and scale outputs and the two scratch buffers), and `main`, what every grid point does (the two block-scaled
   products and the gate). Both are the body's own operations, over the generated skeleton's parts; `body_eq` is the body. -/
module

public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Idealize.SL.Sem
open Cert.Kernel Cert.Kernel.Gen

variable {F : FTy → Type} [FloatOps F]

/-- The first grid point's own stage: quantise the activations. -/
def quant (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    Prog (TpuEff nD τ sig (Elt F) Λ₀ .tc) PUnit := do
  let ⟨v2661, v2663, v5136, v5150, v5155, v5163, v5165, v5168⟩ : Σ' (v2661 : IVec S96x32 32) (v2663 : FVec F S96x128 .fp8e4m3) (v5136 : FVec F S96x32 .f32) (v5150 : FVec F S96x128 .f32) (v5155 : FVec F S96x1 .f32) (v5163 : IVec S96x1 32) (v5165 : IVec S96x1 32), FVec F S96x1 .f32 ← k0_part83 i arg1 harg1 arg2 harg2 arg3 harg3 arg4 harg4 arg5 harg5 arg6 harg6 arg7 harg7 arg8 harg8 arg9 harg9 arg10 harg10
  let v6108 : FVec F S96x32 .f32 ← k0_part84 i arg1 harg1 arg2 harg2 arg3 harg3 arg4 harg4 arg5 harg5 arg6 harg6 arg7 harg7 arg8 harg8 arg9 harg9 arg10 harg10 v2661 v2663 v5136 v5150 v5155 v5163 v5165 v5168
  let v6117 : Vec F S1x96x128 .fp8e4m3 ← Prog.lift (.load arg9 (Rect.unit (s := S16x192x256) ![15, 96, 0] S1x96x128.size inb_S16x192x256_S1x96x128_15_96_0).toLoadRect (View.loadsAt_vmem h_S1x96x128))
  Prog.lift (.store arg9 (Rect.unit (s := S16x192x256) ![15, 96, 0] S1x96x128.size inb_S16x192x256_S1x96x128_15_96_0) (k0_pay419 v2663) Finset.univ (View.stores_vmem h_S1x96x128 (harg9.storeExact_slice rfl _ packedfp8e4m3_S16x192x256_S1x96x128_15_96_0) (fun _ => rfl)) (.inl rfl))
  let v6120 : Vec F S96x32 .f32 ← Prog.lift (.load arg8 (Rect.unit (s := S96x32) ![0, 0] S96x32.size inb_S96x32_S96x32_0_0).toLoadRect (View.loadsAt_vmem h_S96x32))
  Prog.lift (.store arg8 (Rect.unit (s := S96x32) ![0, 0] S96x32.size inb_S96x32_S96x32_0_0) v6108 Finset.univ (View.stores_vmem_bits_univ h_S96x32 rfl) (.inl rfl))
  pure ⟨⟩

/-- Every grid point's stage: the two products of the block and the gate. -/
def main (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    Prog (TpuEff nD τ sig (Elt F) Λ₀ .tc) PUnit := do
  let arg0 : BitVec 32 := BitVec.ofNat 32 (i 0).val
  let v3 : BitVec 32 := Scalar.muli arg0 512#32
  let v4 : BitVec 32 := Scalar.addi v3 0#32
  let v5 : BitVec 32 := Scalar.divsi v4 128#32
  let v6 : BitVec 1 := Scalar.cmpi .sgt v4 0#32
  let v7 : BitVec 32 := Scalar.extui v6
  let v8 : BitVec 1 := Scalar.cmpi .slt v4 0#32
  let v9 : BitVec 32 := Scalar.extui v8
  let v10 : BitVec 32 := Scalar.subi v7 v9
  let v11 : BitVec 1 := Scalar.cmpi .sgt 128#32 0#32
  let v12 : BitVec 32 := Scalar.extui v11
  let v13 : BitVec 1 := Scalar.cmpi .slt 128#32 0#32
  let v14 : BitVec 32 := Scalar.extui v13
  let v15 : BitVec 32 := Scalar.subi v12 v14
  let v16 : BitVec 1 := Scalar.cmpi .ne v10 v15
  let v17 : BitVec 32 := Scalar.remsi v4 128#32
  let v18 : BitVec 1 := Scalar.cmpi .ne v17 0#32
  let v19 : BitVec 1 := Scalar.andi v16 v18
  let v20 : BitVec 32 := Scalar.subi v5 1#32
  let v21 : BitVec 32 := Scalar.select v19 v20 v5
  let v24 : Vec F S256x256 .fp8e4m3 ← Prog.lift (.load arg2 (Rect.unit (s := S512x4096) ![0, 0] S256x256.size inb_S512x4096_S256x256_0_0).toLoadRect (View.loadsAt_vmem h_S256x256))
  let v25 : Vec F S1x192x256 .fp8e4m3 ← Prog.lift (.load arg9 (Rect.unit (s := S16x192x256) ![0, 0, 0] S1x192x256.size inb_S16x192x256_S1x192x256_0_0_0).toLoadRect (View.loadsAt_vmem h_S1x192x256))
  let v28 : Vec F S1x96x128 .f32 ← Prog.lift (.load arg10 (Rect.unit (s := S32x96x128) ![0, 0, 0] S1x96x128.size inb_S32x96x128_S1x96x128_0_0_0).toLoadRect (View.loadsAt_vmem h_S1x96x128))
  let v22 := k0_pay420 (F := F)
  let v23 := k0_pay421 (F := F)
  let v27 := k0_pay422 v24 v25
  let v29 := k0_pay423 v28
  let v31 := k0_pay424 v24 v25 v28
  let ⟨v55, v63, v67, v69, v71⟩ : Σ' (v55 : FVec F S96x128 .f32) (v63 : FVec F S96x128 .f32) (v67 : FVec F S192x256 .f32) (v69 : FVec F S96x128 .f32), FVec F S96x128 .f32 ← k0_part86 i arg1 harg1 arg2 harg2 arg3 harg3 arg4 harg4 arg5 harg5 arg6 harg6 arg7 harg7 arg8 harg8 arg9 harg9 arg10 harg10 v21 v22 v23 v27 v29 v31
  let ⟨v95, v103, v107, v109, v111⟩ : Σ' (v95 : FVec F S96x128 .f32) (v103 : FVec F S96x128 .f32) (v107 : FVec F S192x256 .f32) (v109 : FVec F S96x128 .f32), FVec F S96x128 .f32 ← k0_part87 i arg1 harg1 arg2 harg2 arg3 harg3 arg4 harg4 arg5 harg5 arg6 harg6 arg7 harg7 arg8 harg8 arg9 harg9 arg10 harg10 v21 v55 v63 v67 v69 v71
  let ⟨v135, v143, v147, v149, v151⟩ : Σ' (v135 : FVec F S96x128 .f32) (v143 : FVec F S96x128 .f32) (v147 : FVec F S192x256 .f32) (v149 : FVec F S96x128 .f32), FVec F S96x128 .f32 ← k0_part88 i arg1 harg1 arg2 harg2 arg3 harg3 arg4 harg4 arg5 harg5 arg6 harg6 arg7 harg7 arg8 harg8 arg9 harg9 arg10 harg10 v21 v95 v103 v107 v109 v111
  let ⟨v175, v183, v187, v189, v191⟩ : Σ' (v175 : FVec F S96x128 .f32) (v183 : FVec F S96x128 .f32) (v187 : FVec F S192x256 .f32) (v189 : FVec F S96x128 .f32), FVec F S96x128 .f32 ← k0_part89 i arg1 harg1 arg2 harg2 arg3 harg3 arg4 harg4 arg5 harg5 arg6 harg6 arg7 harg7 arg8 harg8 arg9 harg9 arg10 harg10 v21 v135 v143 v147 v149 v151
  let ⟨v215, v223, v227, v229, v231⟩ : Σ' (v215 : FVec F S96x128 .f32) (v223 : FVec F S96x128 .f32) (v227 : FVec F S192x256 .f32) (v229 : FVec F S96x128 .f32), FVec F S96x128 .f32 ← k0_part90 i arg1 harg1 arg2 harg2 arg3 harg3 arg4 harg4 arg5 harg5 arg6 harg6 arg7 harg7 arg8 harg8 arg9 harg9 arg10 harg10 v21 v175 v183 v187 v189 v191
  let ⟨v255, v263, v267, v269, v271⟩ : Σ' (v255 : FVec F S96x128 .f32) (v263 : FVec F S96x128 .f32) (v267 : FVec F S192x256 .f32) (v269 : FVec F S96x128 .f32), FVec F S96x128 .f32 ← k0_part91 i arg1 harg1 arg2 harg2 arg3 harg3 arg4 harg4 arg5 harg5 arg6 harg6 arg7 harg7 arg8 harg8 arg9 harg9 arg10 harg10 v21 v215 v223 v227 v229 v231
  let ⟨v295, v303, v307, v309, v311⟩ : Σ' (v295 : FVec F S96x128 .f32) (v303 : FVec F S96x128 .f32) (v307 : FVec F S192x256 .f32) (v309 : FVec F S96x128 .f32), FVec F S96x128 .f32 ← k0_part92 i arg1 harg1 arg2 harg2 arg3 harg3 arg4 harg4 arg5 harg5 arg6 harg6 arg7 harg7 arg8 harg8 arg9 harg9 arg10 harg10 v21 v255 v263 v267 v269 v271
  let ⟨v335, v343, v347, v349, v351⟩ : Σ' (v335 : FVec F S96x128 .f32) (v343 : FVec F S96x128 .f32) (v347 : FVec F S192x256 .f32) (v349 : FVec F S96x128 .f32), FVec F S96x128 .f32 ← k0_part93 i arg1 harg1 arg2 harg2 arg3 harg3 arg4 harg4 arg5 harg5 arg6 harg6 arg7 harg7 arg8 harg8 arg9 harg9 arg10 harg10 v21 v295 v303 v307 v309 v311
  let ⟨v375, v383, v387, v389, v391⟩ : Σ' (v375 : FVec F S96x128 .f32) (v383 : FVec F S96x128 .f32) (v387 : FVec F S192x256 .f32) (v389 : FVec F S96x128 .f32), FVec F S96x128 .f32 ← k0_part94 i arg1 harg1 arg2 harg2 arg3 harg3 arg4 harg4 arg5 harg5 arg6 harg6 arg7 harg7 arg8 harg8 arg9 harg9 arg10 harg10 v21 v335 v343 v347 v349 v351
  let ⟨v415, v423, v427, v429, v431⟩ : Σ' (v415 : FVec F S96x128 .f32) (v423 : FVec F S96x128 .f32) (v427 : FVec F S192x256 .f32) (v429 : FVec F S96x128 .f32), FVec F S96x128 .f32 ← k0_part95 i arg1 harg1 arg2 harg2 arg3 harg3 arg4 harg4 arg5 harg5 arg6 harg6 arg7 harg7 arg8 harg8 arg9 harg9 arg10 harg10 v21 v375 v383 v387 v389 v391
  let ⟨v455, v463, v467, v469, v471⟩ : Σ' (v455 : FVec F S96x128 .f32) (v463 : FVec F S96x128 .f32) (v467 : FVec F S192x256 .f32) (v469 : FVec F S96x128 .f32), FVec F S96x128 .f32 ← k0_part96 i arg1 harg1 arg2 harg2 arg3 harg3 arg4 harg4 arg5 harg5 arg6 harg6 arg7 harg7 arg8 harg8 arg9 harg9 arg10 harg10 v21 v415 v423 v427 v429 v431
  let ⟨v495, v503, v507, v509, v511⟩ : Σ' (v495 : FVec F S96x128 .f32) (v503 : FVec F S96x128 .f32) (v507 : FVec F S192x256 .f32) (v509 : FVec F S96x128 .f32), FVec F S96x128 .f32 ← k0_part97 i arg1 harg1 arg2 harg2 arg3 harg3 arg4 harg4 arg5 harg5 arg6 harg6 arg7 harg7 arg8 harg8 arg9 harg9 arg10 harg10 v21 v455 v463 v467 v469 v471
  let ⟨v535, v543, v547, v549, v551⟩ : Σ' (v535 : FVec F S96x128 .f32) (v543 : FVec F S96x128 .f32) (v547 : FVec F S192x256 .f32) (v549 : FVec F S96x128 .f32), FVec F S96x128 .f32 ← k0_part98 i arg1 harg1 arg2 harg2 arg3 harg3 arg4 harg4 arg5 harg5 arg6 harg6 arg7 harg7 arg8 harg8 arg9 harg9 arg10 harg10 v21 v495 v503 v507 v509 v511
  let ⟨v575, v583, v587, v589, v591⟩ : Σ' (v575 : FVec F S96x128 .f32) (v583 : FVec F S96x128 .f32) (v587 : FVec F S192x256 .f32) (v589 : FVec F S96x128 .f32), FVec F S96x128 .f32 ← k0_part99 i arg1 harg1 arg2 harg2 arg3 harg3 arg4 harg4 arg5 harg5 arg6 harg6 arg7 harg7 arg8 harg8 arg9 harg9 arg10 harg10 v21 v535 v543 v547 v549 v551
  let ⟨v615, v623, v627, v629, v631⟩ : Σ' (v615 : FVec F S96x128 .f32) (v623 : FVec F S96x128 .f32) (v627 : FVec F S192x256 .f32) (v629 : FVec F S96x128 .f32), FVec F S96x128 .f32 ← k0_part100 i arg1 harg1 arg2 harg2 arg3 harg3 arg4 harg4 arg5 harg5 arg6 harg6 arg7 harg7 arg8 harg8 arg9 harg9 arg10 harg10 v21 v575 v583 v587 v589 v591
  let ⟨v664, v666, c128_i32_283, v667, v672, v677⟩ : Σ' (v664 : FVec F S96x256 .f32) (v666 : BitVec 32) (c128_i32_283 : BitVec 32) (v667 : BitVec 32) (v672 : BitVec 32), BitVec 32 ← k0_part101 i arg1 harg1 arg2 harg2 arg3 harg3 arg4 harg4 arg5 harg5 arg6 harg6 arg7 harg7 arg8 harg8 arg9 harg9 arg10 harg10 arg0 v21 v615 v623 v627 v629 v631
  let ⟨v683, v689, v699, v707, v709, v711, v715⟩ : Σ' (v683 : BitVec 32) (v689 : FVec F S192x256 .f32) (v699 : FVec F S96x128 .f32) (v707 : FVec F S96x128 .f32) (v709 : FVec F S96x128 .f32) (v711 : FVec F S96x128 .f32), FVec F S96x128 .f32 ← k0_part102 i arg1 harg1 arg2 harg2 arg3 harg3 arg4 harg4 arg5 harg5 arg6 harg6 arg7 harg7 arg8 harg8 arg9 harg9 arg10 harg10 v666 c128_i32_283 v667 v672 v677
  let ⟨v729, v739, v747, v749, v751, v755⟩ : Σ' (v729 : FVec F S192x256 .f32) (v739 : FVec F S96x128 .f32) (v747 : FVec F S96x128 .f32) (v749 : FVec F S96x128 .f32) (v751 : FVec F S96x128 .f32), FVec F S96x128 .f32 ← k0_part103 i arg1 harg1 arg2 harg2 arg3 harg3 arg4 harg4 arg5 harg5 arg6 harg6 arg7 harg7 arg8 harg8 arg9 harg9 arg10 harg10 v683 v689 v699 v707 v709 v711 v715
  let ⟨v769, v779, v787, v789, v791, v795⟩ : Σ' (v769 : FVec F S192x256 .f32) (v779 : FVec F S96x128 .f32) (v787 : FVec F S96x128 .f32) (v789 : FVec F S96x128 .f32) (v791 : FVec F S96x128 .f32), FVec F S96x128 .f32 ← k0_part104 i arg1 harg1 arg2 harg2 arg3 harg3 arg4 harg4 arg5 harg5 arg6 harg6 arg7 harg7 arg8 harg8 arg9 harg9 arg10 harg10 v683 v729 v739 v747 v749 v751 v755
  let ⟨v809, v819, v827, v829, v831, v835⟩ : Σ' (v809 : FVec F S192x256 .f32) (v819 : FVec F S96x128 .f32) (v827 : FVec F S96x128 .f32) (v829 : FVec F S96x128 .f32) (v831 : FVec F S96x128 .f32), FVec F S96x128 .f32 ← k0_part105 i arg1 harg1 arg2 harg2 arg3 harg3 arg4 harg4 arg5 harg5 arg6 harg6 arg7 harg7 arg8 harg8 arg9 harg9 arg10 harg10 v683 v769 v779 v787 v789 v791 v795
  let ⟨v849, v859, v867, v869, v871, v875⟩ : Σ' (v849 : FVec F S192x256 .f32) (v859 : FVec F S96x128 .f32) (v867 : FVec F S96x128 .f32) (v869 : FVec F S96x128 .f32) (v871 : FVec F S96x128 .f32), FVec F S96x128 .f32 ← k0_part106 i arg1 harg1 arg2 harg2 arg3 harg3 arg4 harg4 arg5 harg5 arg6 harg6 arg7 harg7 arg8 harg8 arg9 harg9 arg10 harg10 v683 v809 v819 v827 v829 v831 v835
  let ⟨v889, v899, v907, v909, v911, v915⟩ : Σ' (v889 : FVec F S192x256 .f32) (v899 : FVec F S96x128 .f32) (v907 : FVec F S96x128 .f32) (v909 : FVec F S96x128 .f32) (v911 : FVec F S96x128 .f32), FVec F S96x128 .f32 ← k0_part107 i arg1 harg1 arg2 harg2 arg3 harg3 arg4 harg4 arg5 harg5 arg6 harg6 arg7 harg7 arg8 harg8 arg9 harg9 arg10 harg10 v683 v849 v859 v867 v869 v871 v875
  let ⟨v929, v939, v947, v949, v951, v955⟩ : Σ' (v929 : FVec F S192x256 .f32) (v939 : FVec F S96x128 .f32) (v947 : FVec F S96x128 .f32) (v949 : FVec F S96x128 .f32) (v951 : FVec F S96x128 .f32), FVec F S96x128 .f32 ← k0_part108 i arg1 harg1 arg2 harg2 arg3 harg3 arg4 harg4 arg5 harg5 arg6 harg6 arg7 harg7 arg8 harg8 arg9 harg9 arg10 harg10 v683 v889 v899 v907 v909 v911 v915
  let ⟨v969, v979, v987, v989, v991, v995⟩ : Σ' (v969 : FVec F S192x256 .f32) (v979 : FVec F S96x128 .f32) (v987 : FVec F S96x128 .f32) (v989 : FVec F S96x128 .f32) (v991 : FVec F S96x128 .f32), FVec F S96x128 .f32 ← k0_part109 i arg1 harg1 arg2 harg2 arg3 harg3 arg4 harg4 arg5 harg5 arg6 harg6 arg7 harg7 arg8 harg8 arg9 harg9 arg10 harg10 v683 v929 v939 v947 v949 v951 v955
  let ⟨v1009, v1019, v1027, v1029, v1031, v1035⟩ : Σ' (v1009 : FVec F S192x256 .f32) (v1019 : FVec F S96x128 .f32) (v1027 : FVec F S96x128 .f32) (v1029 : FVec F S96x128 .f32) (v1031 : FVec F S96x128 .f32), FVec F S96x128 .f32 ← k0_part110 i arg1 harg1 arg2 harg2 arg3 harg3 arg4 harg4 arg5 harg5 arg6 harg6 arg7 harg7 arg8 harg8 arg9 harg9 arg10 harg10 v683 v969 v979 v987 v989 v991 v995
  let ⟨v1049, v1059, v1067, v1069, v1071, v1075⟩ : Σ' (v1049 : FVec F S192x256 .f32) (v1059 : FVec F S96x128 .f32) (v1067 : FVec F S96x128 .f32) (v1069 : FVec F S96x128 .f32) (v1071 : FVec F S96x128 .f32), FVec F S96x128 .f32 ← k0_part111 i arg1 harg1 arg2 harg2 arg3 harg3 arg4 harg4 arg5 harg5 arg6 harg6 arg7 harg7 arg8 harg8 arg9 harg9 arg10 harg10 v683 v1009 v1019 v1027 v1029 v1031 v1035
  let ⟨v1089, v1099, v1107, v1109, v1111, v1115⟩ : Σ' (v1089 : FVec F S192x256 .f32) (v1099 : FVec F S96x128 .f32) (v1107 : FVec F S96x128 .f32) (v1109 : FVec F S96x128 .f32) (v1111 : FVec F S96x128 .f32), FVec F S96x128 .f32 ← k0_part112 i arg1 harg1 arg2 harg2 arg3 harg3 arg4 harg4 arg5 harg5 arg6 harg6 arg7 harg7 arg8 harg8 arg9 harg9 arg10 harg10 v683 v1049 v1059 v1067 v1069 v1071 v1075
  let ⟨v1129, v1139, v1147, v1149, v1151, v1155⟩ : Σ' (v1129 : FVec F S192x256 .f32) (v1139 : FVec F S96x128 .f32) (v1147 : FVec F S96x128 .f32) (v1149 : FVec F S96x128 .f32) (v1151 : FVec F S96x128 .f32), FVec F S96x128 .f32 ← k0_part113 i arg1 harg1 arg2 harg2 arg3 harg3 arg4 harg4 arg5 harg5 arg6 harg6 arg7 harg7 arg8 harg8 arg9 harg9 arg10 harg10 v683 v1089 v1099 v1107 v1109 v1111 v1115
  let ⟨v1169, v1179, v1187, v1189, v1191, v1195⟩ : Σ' (v1169 : FVec F S192x256 .f32) (v1179 : FVec F S96x128 .f32) (v1187 : FVec F S96x128 .f32) (v1189 : FVec F S96x128 .f32) (v1191 : FVec F S96x128 .f32), FVec F S96x128 .f32 ← k0_part114 i arg1 harg1 arg2 harg2 arg3 harg3 arg4 harg4 arg5 harg5 arg6 harg6 arg7 harg7 arg8 harg8 arg9 harg9 arg10 harg10 v683 v1129 v1139 v1147 v1149 v1151 v1155
  let ⟨v1209, v1219, v1227, v1229, v1231, v1235⟩ : Σ' (v1209 : FVec F S192x256 .f32) (v1219 : FVec F S96x128 .f32) (v1227 : FVec F S96x128 .f32) (v1229 : FVec F S96x128 .f32) (v1231 : FVec F S96x128 .f32), FVec F S96x128 .f32 ← k0_part115 i arg1 harg1 arg2 harg2 arg3 harg3 arg4 harg4 arg5 harg5 arg6 harg6 arg7 harg7 arg8 harg8 arg9 harg9 arg10 harg10 v683 v1169 v1179 v1187 v1189 v1191 v1195
  let ⟨v1249, v1259, v1267, v1269, v1271, v1275⟩ : Σ' (v1249 : FVec F S192x256 .f32) (v1259 : FVec F S96x128 .f32) (v1267 : FVec F S96x128 .f32) (v1269 : FVec F S96x128 .f32) (v1271 : FVec F S96x128 .f32), FVec F S96x128 .f32 ← k0_part116 i arg1 harg1 arg2 harg2 arg3 harg3 arg4 harg4 arg5 harg5 arg6 harg6 arg7 harg7 arg8 harg8 arg9 harg9 arg10 harg10 v683 v1209 v1219 v1227 v1229 v1231 v1235
  let ⟨v1289, v1299, v1307, v1309, v1311, v1315⟩ : Σ' (v1289 : FVec F S192x256 .f32) (v1299 : FVec F S96x128 .f32) (v1307 : FVec F S96x128 .f32) (v1309 : FVec F S96x128 .f32) (v1311 : FVec F S96x128 .f32), FVec F S96x128 .f32 ← k0_part117 i arg1 harg1 arg2 harg2 arg3 harg3 arg4 harg4 arg5 harg5 arg6 harg6 arg7 harg7 arg8 harg8 arg9 harg9 arg10 harg10 v683 v1249 v1259 v1267 v1269 v1271 v1275
  let ⟨v1350, v1351, v1352, v1353, v1354⟩ : Σ' (v1350 : BitVec 32) (v1351 : FVec F S96x128 .f32) (v1352 : FVec F S96x128 .f32) (v1353 : Vec F S256x256 .fp8e4m3), Vec F S1x192x256 .fp8e4m3 ← k0_part118 i arg1 harg1 arg2 harg2 arg3 harg3 arg4 harg4 arg5 harg5 arg6 harg6 arg7 harg7 arg8 harg8 arg9 harg9 arg10 harg10 arg0 v664 v683 v1289 v1299 v1307 v1309 v1311 v1315
  let ⟨v1384, v1392, v1393, v1394⟩ : Σ' (v1384 : FVec F S96x128 .f32) (v1392 : FVec F S96x128 .f32) (v1393 : Vec F S256x256 .fp8e4m3), Vec F S1x192x256 .fp8e4m3 ← k0_part119 i arg1 harg1 arg2 harg2 arg3 harg3 arg4 harg4 arg5 harg5 arg6 harg6 arg7 harg7 arg8 harg8 arg9 harg9 arg10 harg10 v1350 v1351 v1352 v1353 v1354
  let ⟨v1424, v1432, v1433, v1434⟩ : Σ' (v1424 : FVec F S96x128 .f32) (v1432 : FVec F S96x128 .f32) (v1433 : Vec F S256x256 .fp8e4m3), Vec F S1x192x256 .fp8e4m3 ← k0_part120 i arg1 harg1 arg2 harg2 arg3 harg3 arg4 harg4 arg5 harg5 arg6 harg6 arg7 harg7 arg8 harg8 arg9 harg9 arg10 harg10 v1350 v1384 v1392 v1393 v1394
  let ⟨v1464, v1472, v1473, v1474⟩ : Σ' (v1464 : FVec F S96x128 .f32) (v1472 : FVec F S96x128 .f32) (v1473 : Vec F S256x256 .fp8e4m3), Vec F S1x192x256 .fp8e4m3 ← k0_part121 i arg1 harg1 arg2 harg2 arg3 harg3 arg4 harg4 arg5 harg5 arg6 harg6 arg7 harg7 arg8 harg8 arg9 harg9 arg10 harg10 v1350 v1424 v1432 v1433 v1434
  let ⟨v1504, v1512, v1513, v1514⟩ : Σ' (v1504 : FVec F S96x128 .f32) (v1512 : FVec F S96x128 .f32) (v1513 : Vec F S256x256 .fp8e4m3), Vec F S1x192x256 .fp8e4m3 ← k0_part122 i arg1 harg1 arg2 harg2 arg3 harg3 arg4 harg4 arg5 harg5 arg6 harg6 arg7 harg7 arg8 harg8 arg9 harg9 arg10 harg10 v1350 v1464 v1472 v1473 v1474
  let ⟨v1544, v1552, v1553, v1554⟩ : Σ' (v1544 : FVec F S96x128 .f32) (v1552 : FVec F S96x128 .f32) (v1553 : Vec F S256x256 .fp8e4m3), Vec F S1x192x256 .fp8e4m3 ← k0_part123 i arg1 harg1 arg2 harg2 arg3 harg3 arg4 harg4 arg5 harg5 arg6 harg6 arg7 harg7 arg8 harg8 arg9 harg9 arg10 harg10 v1350 v1504 v1512 v1513 v1514
  let ⟨v1584, v1592, v1593, v1594⟩ : Σ' (v1584 : FVec F S96x128 .f32) (v1592 : FVec F S96x128 .f32) (v1593 : Vec F S256x256 .fp8e4m3), Vec F S1x192x256 .fp8e4m3 ← k0_part124 i arg1 harg1 arg2 harg2 arg3 harg3 arg4 harg4 arg5 harg5 arg6 harg6 arg7 harg7 arg8 harg8 arg9 harg9 arg10 harg10 v1350 v1544 v1552 v1553 v1554
  let ⟨v1624, v1632, v1633, v1634⟩ : Σ' (v1624 : FVec F S96x128 .f32) (v1632 : FVec F S96x128 .f32) (v1633 : Vec F S256x256 .fp8e4m3), Vec F S1x192x256 .fp8e4m3 ← k0_part125 i arg1 harg1 arg2 harg2 arg3 harg3 arg4 harg4 arg5 harg5 arg6 harg6 arg7 harg7 arg8 harg8 arg9 harg9 arg10 harg10 v1350 v1584 v1592 v1593 v1594
  let ⟨v1664, v1672, v1673, v1674⟩ : Σ' (v1664 : FVec F S96x128 .f32) (v1672 : FVec F S96x128 .f32) (v1673 : Vec F S256x256 .fp8e4m3), Vec F S1x192x256 .fp8e4m3 ← k0_part126 i arg1 harg1 arg2 harg2 arg3 harg3 arg4 harg4 arg5 harg5 arg6 harg6 arg7 harg7 arg8 harg8 arg9 harg9 arg10 harg10 v1350 v1624 v1632 v1633 v1634
  let ⟨v1704, v1712, v1713, v1714⟩ : Σ' (v1704 : FVec F S96x128 .f32) (v1712 : FVec F S96x128 .f32) (v1713 : Vec F S256x256 .fp8e4m3), Vec F S1x192x256 .fp8e4m3 ← k0_part127 i arg1 harg1 arg2 harg2 arg3 harg3 arg4 harg4 arg5 harg5 arg6 harg6 arg7 harg7 arg8 harg8 arg9 harg9 arg10 harg10 v1350 v1664 v1672 v1673 v1674
  let ⟨v1744, v1752, v1753, v1754⟩ : Σ' (v1744 : FVec F S96x128 .f32) (v1752 : FVec F S96x128 .f32) (v1753 : Vec F S256x256 .fp8e4m3), Vec F S1x192x256 .fp8e4m3 ← k0_part128 i arg1 harg1 arg2 harg2 arg3 harg3 arg4 harg4 arg5 harg5 arg6 harg6 arg7 harg7 arg8 harg8 arg9 harg9 arg10 harg10 v1350 v1704 v1712 v1713 v1714
  let ⟨v1784, v1792, v1793, v1794⟩ : Σ' (v1784 : FVec F S96x128 .f32) (v1792 : FVec F S96x128 .f32) (v1793 : Vec F S256x256 .fp8e4m3), Vec F S1x192x256 .fp8e4m3 ← k0_part129 i arg1 harg1 arg2 harg2 arg3 harg3 arg4 harg4 arg5 harg5 arg6 harg6 arg7 harg7 arg8 harg8 arg9 harg9 arg10 harg10 v1350 v1744 v1752 v1753 v1754
  let ⟨v1824, v1832, v1833, v1834⟩ : Σ' (v1824 : FVec F S96x128 .f32) (v1832 : FVec F S96x128 .f32) (v1833 : Vec F S256x256 .fp8e4m3), Vec F S1x192x256 .fp8e4m3 ← k0_part130 i arg1 harg1 arg2 harg2 arg3 harg3 arg4 harg4 arg5 harg5 arg6 harg6 arg7 harg7 arg8 harg8 arg9 harg9 arg10 harg10 v1350 v1784 v1792 v1793 v1794
  let ⟨v1864, v1872, v1873, v1874⟩ : Σ' (v1864 : FVec F S96x128 .f32) (v1872 : FVec F S96x128 .f32) (v1873 : Vec F S256x256 .fp8e4m3), Vec F S1x192x256 .fp8e4m3 ← k0_part131 i arg1 harg1 arg2 harg2 arg3 harg3 arg4 harg4 arg5 harg5 arg6 harg6 arg7 harg7 arg8 harg8 arg9 harg9 arg10 harg10 v1350 v1824 v1832 v1833 v1834
  let ⟨v1904, v1912, v1913, v1914⟩ : Σ' (v1904 : FVec F S96x128 .f32) (v1912 : FVec F S96x128 .f32) (v1913 : Vec F S256x256 .fp8e4m3), Vec F S1x192x256 .fp8e4m3 ← k0_part132 i arg1 harg1 arg2 harg2 arg3 harg3 arg4 harg4 arg5 harg5 arg6 harg6 arg7 harg7 arg8 harg8 arg9 harg9 arg10 harg10 v1350 v1864 v1872 v1873 v1874
  let ⟨v1944, v1952, v1953, v1954⟩ : Σ' (v1944 : FVec F S96x128 .f32) (v1952 : FVec F S96x128 .f32) (v1953 : Vec F S256x256 .fp8e4m3), Vec F S1x192x256 .fp8e4m3 ← k0_part133 i arg1 harg1 arg2 harg2 arg3 harg3 arg4 harg4 arg5 harg5 arg6 harg6 arg7 harg7 arg8 harg8 arg9 harg9 arg10 harg10 v1350 v1904 v1912 v1913 v1914
  let ⟨v1993, v1995, c128_i32_946, v1996⟩ : Σ' (v1993 : FVec F S96x256 .f32) (v1995 : BitVec 32) (c128_i32_946 : BitVec 32), BitVec 32 ← k0_part134 i arg1 harg1 arg2 harg2 arg3 harg3 arg4 harg4 arg5 harg5 arg6 harg6 arg7 harg7 arg8 harg8 arg9 harg9 arg10 harg10 arg0 v1350 v1944 v1952 v1953 v1954
  let ⟨v2012, v2014, v2018, v2028, v2035⟩ : Σ' (v2012 : BitVec 32) (v2014 : FVec F S96x128 .f32) (v2018 : FVec F S192x256 .f32) (v2028 : FVec F S96x128 .f32), FVec F S96x128 .f32 ← k0_part135 i arg1 harg1 arg2 harg2 arg3 harg3 arg4 harg4 arg5 harg5 arg6 harg6 arg7 harg7 arg8 harg8 arg9 harg9 arg10 harg10 v1995 c128_i32_946 v1996
  let ⟨v2054, v2058, v2068, v2075⟩ : Σ' (v2054 : FVec F S96x128 .f32) (v2058 : FVec F S192x256 .f32) (v2068 : FVec F S96x128 .f32), FVec F S96x128 .f32 ← k0_part136 i arg1 harg1 arg2 harg2 arg3 harg3 arg4 harg4 arg5 harg5 arg6 harg6 arg7 harg7 arg8 harg8 arg9 harg9 arg10 harg10 v2012 v2014 v2018 v2028 v2035
  let ⟨v2094, v2098, v2108, v2115⟩ : Σ' (v2094 : FVec F S96x128 .f32) (v2098 : FVec F S192x256 .f32) (v2108 : FVec F S96x128 .f32), FVec F S96x128 .f32 ← k0_part137 i arg1 harg1 arg2 harg2 arg3 harg3 arg4 harg4 arg5 harg5 arg6 harg6 arg7 harg7 arg8 harg8 arg9 harg9 arg10 harg10 v2012 v2054 v2058 v2068 v2075
  let ⟨v2134, v2138, v2148, v2155⟩ : Σ' (v2134 : FVec F S96x128 .f32) (v2138 : FVec F S192x256 .f32) (v2148 : FVec F S96x128 .f32), FVec F S96x128 .f32 ← k0_part138 i arg1 harg1 arg2 harg2 arg3 harg3 arg4 harg4 arg5 harg5 arg6 harg6 arg7 harg7 arg8 harg8 arg9 harg9 arg10 harg10 v2012 v2094 v2098 v2108 v2115
  let ⟨v2174, v2178, v2188, v2195⟩ : Σ' (v2174 : FVec F S96x128 .f32) (v2178 : FVec F S192x256 .f32) (v2188 : FVec F S96x128 .f32), FVec F S96x128 .f32 ← k0_part139 i arg1 harg1 arg2 harg2 arg3 harg3 arg4 harg4 arg5 harg5 arg6 harg6 arg7 harg7 arg8 harg8 arg9 harg9 arg10 harg10 v2012 v2134 v2138 v2148 v2155
  let ⟨v2214, v2218, v2228, v2235⟩ : Σ' (v2214 : FVec F S96x128 .f32) (v2218 : FVec F S192x256 .f32) (v2228 : FVec F S96x128 .f32), FVec F S96x128 .f32 ← k0_part140 i arg1 harg1 arg2 harg2 arg3 harg3 arg4 harg4 arg5 harg5 arg6 harg6 arg7 harg7 arg8 harg8 arg9 harg9 arg10 harg10 v2012 v2174 v2178 v2188 v2195
  let ⟨v2254, v2258, v2268, v2275⟩ : Σ' (v2254 : FVec F S96x128 .f32) (v2258 : FVec F S192x256 .f32) (v2268 : FVec F S96x128 .f32), FVec F S96x128 .f32 ← k0_part141 i arg1 harg1 arg2 harg2 arg3 harg3 arg4 harg4 arg5 harg5 arg6 harg6 arg7 harg7 arg8 harg8 arg9 harg9 arg10 harg10 v2012 v2214 v2218 v2228 v2235
  let ⟨v2294, v2298, v2308, v2315⟩ : Σ' (v2294 : FVec F S96x128 .f32) (v2298 : FVec F S192x256 .f32) (v2308 : FVec F S96x128 .f32), FVec F S96x128 .f32 ← k0_part142 i arg1 harg1 arg2 harg2 arg3 harg3 arg4 harg4 arg5 harg5 arg6 harg6 arg7 harg7 arg8 harg8 arg9 harg9 arg10 harg10 v2012 v2254 v2258 v2268 v2275
  let ⟨v2334, v2338, v2348, v2355⟩ : Σ' (v2334 : FVec F S96x128 .f32) (v2338 : FVec F S192x256 .f32) (v2348 : FVec F S96x128 .f32), FVec F S96x128 .f32 ← k0_part143 i arg1 harg1 arg2 harg2 arg3 harg3 arg4 harg4 arg5 harg5 arg6 harg6 arg7 harg7 arg8 harg8 arg9 harg9 arg10 harg10 v2012 v2294 v2298 v2308 v2315
  let ⟨v2374, v2378, v2388, v2395⟩ : Σ' (v2374 : FVec F S96x128 .f32) (v2378 : FVec F S192x256 .f32) (v2388 : FVec F S96x128 .f32), FVec F S96x128 .f32 ← k0_part144 i arg1 harg1 arg2 harg2 arg3 harg3 arg4 harg4 arg5 harg5 arg6 harg6 arg7 harg7 arg8 harg8 arg9 harg9 arg10 harg10 v2012 v2334 v2338 v2348 v2355
  let ⟨v2414, v2418, v2428, v2435⟩ : Σ' (v2414 : FVec F S96x128 .f32) (v2418 : FVec F S192x256 .f32) (v2428 : FVec F S96x128 .f32), FVec F S96x128 .f32 ← k0_part145 i arg1 harg1 arg2 harg2 arg3 harg3 arg4 harg4 arg5 harg5 arg6 harg6 arg7 harg7 arg8 harg8 arg9 harg9 arg10 harg10 v2012 v2374 v2378 v2388 v2395
  let ⟨v2454, v2458, v2468, v2475⟩ : Σ' (v2454 : FVec F S96x128 .f32) (v2458 : FVec F S192x256 .f32) (v2468 : FVec F S96x128 .f32), FVec F S96x128 .f32 ← k0_part146 i arg1 harg1 arg2 harg2 arg3 harg3 arg4 harg4 arg5 harg5 arg6 harg6 arg7 harg7 arg8 harg8 arg9 harg9 arg10 harg10 v2012 v2414 v2418 v2428 v2435
  let ⟨v2494, v2498, v2508, v2515⟩ : Σ' (v2494 : FVec F S96x128 .f32) (v2498 : FVec F S192x256 .f32) (v2508 : FVec F S96x128 .f32), FVec F S96x128 .f32 ← k0_part147 i arg1 harg1 arg2 harg2 arg3 harg3 arg4 harg4 arg5 harg5 arg6 harg6 arg7 harg7 arg8 harg8 arg9 harg9 arg10 harg10 v2012 v2454 v2458 v2468 v2475
  let ⟨v2534, v2538, v2548, v2555⟩ : Σ' (v2534 : FVec F S96x128 .f32) (v2538 : FVec F S192x256 .f32) (v2548 : FVec F S96x128 .f32), FVec F S96x128 .f32 ← k0_part148 i arg1 harg1 arg2 harg2 arg3 harg3 arg4 harg4 arg5 harg5 arg6 harg6 arg7 harg7 arg8 harg8 arg9 harg9 arg10 harg10 v2012 v2494 v2498 v2508 v2515
  let ⟨v2574, v2578, v2588, v2595⟩ : Σ' (v2574 : FVec F S96x128 .f32) (v2578 : FVec F S192x256 .f32) (v2588 : FVec F S96x128 .f32), FVec F S96x128 .f32 ← k0_part149 i arg1 harg1 arg2 harg2 arg3 harg3 arg4 harg4 arg5 harg5 arg6 harg6 arg7 harg7 arg8 harg8 arg9 harg9 arg10 harg10 v2012 v2534 v2538 v2548 v2555
  let ⟨v2614, v2618, v2628, v2635⟩ : Σ' (v2614 : FVec F S96x128 .f32) (v2618 : FVec F S192x256 .f32) (v2628 : FVec F S96x128 .f32), FVec F S96x128 .f32 ← k0_part150 i arg1 harg1 arg2 harg2 arg3 harg3 arg4 harg4 arg5 harg5 arg6 harg6 arg7 harg7 arg8 harg8 arg9 harg9 arg10 harg10 v2012 v2574 v2578 v2588 v2595
  let v2637 : Vec F S1x96x128 .f32 ← Prog.lift (.load arg10 (Rect.unit (s := S32x96x128) ![31, 0, 0] S1x96x128.size inb_S32x96x128_S1x96x128_31_0_0).toLoadRect (View.loadsAt_vmem h_S1x96x128))
  let v2643 : Elt F .f32 ← smemLoad arg5 (Rect.unit (s := S112x32) (k0_off32 i 256#32 0#32) S1x1.size (k0_off32_inb i 1 0)) numel1_S1x1 rfl
  let v2651 : Elt F .f32 ← smemLoad arg5 (Rect.unit (s := S112x32) (k0_off32 i 256#32 1#32) S1x1.size (k0_off32_inb i 1 1)) numel1_S1x1 rfl
  let v2660 : Vec F S96x256 .bf16 ← Prog.lift (.load arg6 (Rect.unit (s := S96x512) ![0, 256] S96x256.size inb_S96x512_S96x256_0_256).toLoadRect (View.loadsAt_vmem h_S96x256))
  Prog.lift (.store arg6 (Rect.unit (s := S96x512) ![0, 256] S96x256.size inb_S96x512_S96x256_0_256) (k0_pay1 v1993 v2614 v2618 v2628 v2635 v2637 v2643 v2651) Finset.univ (View.stores_vmem h_S96x256 (harg6.storeExact_slice rfl _ packedbf16_S96x512_S96x256_0_256) (fun _ => rfl)) (.inl rfl))
  pure ⟨⟩

set_option maxHeartbeats 1600000 in
/-- The body is `quant` where the grid coordinate is 0, then `main`. -/
theorem body_eq (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole) :
    cc0__body (F := F) i arg1 harg1 arg2 harg2 arg3 harg3 arg4 harg4 arg5 harg5 arg6 harg6 arg7 harg7 arg8 harg8 arg9 harg9 arg10 harg10
      = (if k0_cond1 i = 1#1 then quant i arg1 harg1 arg2 harg2 arg3 harg3 arg4 harg4 arg5 harg5 arg6 harg6 arg7 harg7 arg8 harg8 arg9 harg9 arg10 harg10 else pure ⟨⟩) >>= fun _ => main i arg1 harg1 arg2 harg2 arg3 harg3 arg4 harg4 arg5 harg5 arg6 harg6 arg7 harg7 arg8 harg8 arg9 harg9 arg10 harg10 := by
  by_cases h : k0_cond1 i = 1#1
  · simp only [cc0__body_eq_skeleton, cc0__body_skel, k0_part151_eq_skeleton, k0_part151_skel, k0_part85_eq_skeleton,
      k0_part85_skel, dif_pos h, if_pos h, quant, main, bind_assoc, pure_bind]
  · simp only [cc0__body_eq_skeleton, cc0__body_skel, k0_part151_eq_skeleton, k0_part151_skel, k0_part85_eq_skeleton,
      k0_part85_skel, dif_neg h, if_neg h, main, bind_assoc, pure_bind]

end Cert.Kernel.Hand

end
-- ==== Proof.KMainRun.lean ====
/- The run of `main`, every grid point's stage: from the point's weight blocks, the weight scales and the two scratch
   buffers at given contents, it leaves the output block at contents that these determine (`mainRun`, its witness). -/
module

public import proofs.«01_k».proof.Proof.KBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4980000 in
/-- `main` from the weight blocks at `x1` and `x2`, the weight scales at `x3` and `x4` and the scratch buffers at `L` and
    `X`: these stay, and the output block's buffer ends at the run's witness. -/
def mainRun (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)
    (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) :
    { P : List (View.Piece (Elt F) S96x512 .bf16) // ∀ (E : Set ℕ) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare L ∗ owns (c : Thread nD τ) arg10 fullShare X
            ∗ (iprop(owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f P) ∗ owns (c : Thread nD τ) arg9 fullShare L ∗ owns (c : Thread nD τ) arg10 fullShare X) -∗ K ⟨⟩))
          ⊢ wp frame (wpE (defs₀ (F := F)) Variants.none c none) E (main i arg1 harg1 arg2 harg2 arg3 harg3 arg4 harg4 arg5 harg5 arg6 harg6 arg7 harg7 arg8 harg8 arg9 harg9 arg10 harg10) K } := by
  refine ⟨?_, fun E K => ?run⟩
  case run =>
    unfold main
    simp only [k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf1; obtain rfl := harg3.eq_unread hf2; obtain rfl := harg4.eq_unread hf3
    obtain rfl := harg5.eq_unread hf4; obtain rfl := harg9.eq_unread hs0; obtain rfl := harg10.eq_unread hs1
    sl_exec
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; isplitr; · ipureintro; exact harg9.read_unread _
      iexact HS0
    iexists _; isplitr; · ipureintro; exact harg10.read_unread _
    iexact HS1

end Cert.Kernel.Hand

end
-- ==== Proof.KQuantRun.lean ====
/- The run of `quant`, the first grid point's own stage: from the activations at given contents, it leaves the code and
   scale outputs and the two scratch buffers at contents that these determine (`quantRun`, its witnesses). -/
module

public import proofs.«01_k».proof.Proof.KBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 7340000 in
/-- `quant` from the activations at `x0`: they stay, and the codes' buffer, the scales' and the two scratch buffers end at
    the run's witnesses, whatever they held. -/
def quantRun (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)
    (x0 : Vec F S96x4096 .bf16) :
    Σ' (P6 : List (View.Piece (Elt F) S96x4096 .fp8e4m3)) (P7 : List (View.Piece (Elt F) S96x32 .f32))
      (PL : List (View.Piece (Elt F) S16x192x256 .fp8e4m3)), { PX : List (View.Piece (Elt F) S32x96x128 .f32) // ∀ (E : Set ℕ) (K : PUnit → sProp 𝕄),
        iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ (∃ f, arg7.view.loc (c : Thread nD τ) ↦[arg7.view.set]{fullShare} arg7.view.writes (Elt F) f P6) ∗ (∃ f, arg8.view.loc (c : Thread nD τ) ↦[arg8.view.set]{fullShare} arg8.view.writes (Elt F) f P7) ∗ (∃ f, arg9.view.loc (c : Thread nD τ) ↦[arg9.view.set]{fullShare} arg9.view.writes (Elt F) f PL) ∗ (∃ f, arg10.view.loc (c : Thread nD τ) ↦[arg10.view.set]{fullShare} arg10.view.writes (Elt F) f PX)) -∗ K ⟨⟩))
          ⊢ wp frame (wpE (defs₀ (F := F)) Variants.none c none) E (quant i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold quant
    simp only [k0_part83_eq_skeleton, k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
    unfold owns
    iintro ⟨⟨%f0, %hf0, H0⟩, ⟨%d6, %f6, -, H6⟩, ⟨%d7, %f7, -, H7⟩, ⟨%ds0, %fs0, -, HS0⟩, ⟨%ds1, %fs1, -, HS1⟩, Hk⟩
    obtain rfl := harg1.eq_unread hf0
    sl_exec
    sl_step
    iapply Hk
    isplitl [H0]
    · iexists _; isplitr; · ipureintro; exact harg1.read_unread _
      iexact H0
    isplitl [H6]
    · iexists _; iexact H6
    isplitl [H7]
    · iexists _; iexact H7
    isplitl [HS0]
    · iexists _; iexact HS0
    iexists _; iexact HS1

end Cert.Kernel.Hand

end
-- ==== Proof.KStages.lean ====
/- What the two stages' runs leave in the buffers they write, as contents: the written tiles cover each buffer, so what it
   held before is gone (`main_spec`, `quant_spec`). -/
module

public import proofs.«01_k».proof.Proof.KMainRun
public import proofs.«01_k».proof.Proof.KQuantRun

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Runs
variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

/-- The two column tiles `main` stores cover the output block. -/
theorem main_tiled (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) :
    View.Piece.tiledL (mainRun c i arg1 harg1 arg2 harg2 arg3 harg3 arg4 harg4 arg5 harg5 arg6 harg6 arg7 harg7 arg8 harg8 arg9 harg9 arg10 harg10 x1 x2 x3 x4 L X).1 S96x256.size = true := by sl_kernel_rfl

/-- `quant`'s code tiles cover the codes' buffer, -/
theorem codes_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).1 S96x128.size = true := by sl_kernel_rfl
/-- its scales are stored whole, -/
theorem scales_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.1 S96x32.size = true := by sl_kernel_rfl
/-- its stacked code tiles and the zero tiles beside them cover the first scratch buffer, -/
theorem lhs_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.2.1 S1x96x128.size = true := by sl_kernel_rfl
/-- and its broadcast scales cover the second. -/
theorem xs_tiled (x0 : Vec F S96x4096 .bf16) : View.Piece.tiledL (quantRun c i arg1 harg1 arg2 harg2 arg3 harg3 arg4 harg4 arg5 harg5 arg6 harg6 arg7 harg7 arg8 harg8 arg9 harg9 arg10 harg10 x0).2.2.2.1 S1x96x128.size = true := by sl_kernel_rfl

/-- The contents `main` leaves in the output block. -/
def mainOut (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) : Vec F S96x512 .bf16 := View.canon (mainRun c i arg1 harg1 arg2 harg2 arg3 harg3 arg4 harg4 arg5 harg5 arg6 harg6 arg7 harg7 arg8 harg8 arg9 harg9 arg10 harg10 x1 x2 x3 x4 L X).1
/-- The contents `quant` leaves: the codes, -/
def codesOut (x0 : Vec F S96x4096 .bf16) : Vec F S96x4096 .fp8e4m3 := View.canon (quantRun c i arg1 harg1 arg2 harg2 arg3 harg3 arg4 harg4 arg5 harg5 arg6 harg6 arg7 harg7 arg8 harg8 arg9 harg9 arg10 harg10 x0).1
/-- the scales, -/
def scalesOut (x0 : Vec F S96x4096 .bf16) : Vec F S96x32 .f32 := View.canon (quantRun c i arg1 harg1 arg2 harg2 arg3 harg3 arg4 harg4 arg5 harg5 arg6 harg6 arg7 harg7 arg8 harg8 arg9 harg9 arg10 harg10 x0).2.1
/-- the stacked codes, -/
def lhsOut (x0 : Vec F S96x4096 .bf16) : Vec F S16x192x256 .fp8e4m3 := View.canon (quantRun c i arg1 harg1 arg2 harg2 arg3 harg3 arg4 harg4 arg5 harg5 arg6 harg6 arg7 harg7 arg8 harg8 arg9 harg9 arg10 harg10 x0).2.2.1
/-- the broadcast scales. -/
def xsOut (x0 : Vec F S96x4096 .bf16) : Vec F S32x96x128 .f32 := View.canon (quantRun c i arg1 harg1 arg2 harg2 arg3 harg3 arg4 harg4 arg5 harg5 arg6 harg6 arg7 harg7 arg8 harg8 arg9 harg9 arg10 harg10 x0).2.2.2.1

/-- `main`, the output block at its contents. -/
theorem main_spec (x1 : Vec F S512x4096 .fp8e4m3) (x2 : Vec F S512x4096 .fp8e4m3) (x3 : Vec F S112x32 .f32) (x4 : Vec F S112x32 .f32)
    (L : Vec F S16x192x256 .fp8e4m3) (X : Vec F S32x96x128 .f32) (E : Set ℕ) (K : PUnit → sProp 𝕄) :
    iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare L ∗ owns (c : Thread nD τ) arg10 fullShare X
        ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (mainOut c i arg1 harg1 arg2 harg2 arg3 harg3 arg4 harg4 arg5 harg5 arg6 harg6 arg7 harg7 arg8 harg8 arg9 harg9 arg10 harg10 x1 x2 x3 x4 L X) ∗ owns (c : Thread nD τ) arg9 fullShare L ∗ owns (c : Thread nD τ) arg10 fullShare X) -∗ K ⟨⟩))
      ⊢ wp frame (wpE (defs₀ (F := F)) Variants.none c none) E (main i arg1 harg1 arg2 harg2 arg3 harg3 arg4 harg4 arg5 harg5 arg6 harg6 arg7 harg7 arg8 harg8 arg9 harg9 arg10 harg10) K := by
  iintro ⟨H1, H2, H3, H4, H5, HS0, HS1, Hk⟩
  iapply ((mainRun c i arg1 harg1 arg2 harg2 arg3 harg3 arg4 harg4 arg5 harg5 arg6 harg6 arg7 harg7 arg8 harg8 arg9 harg9 arg10 harg10 x1 x2 x3 x4 L X).2 E K)
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H1, H2, H3, H4, ⟨%f5, H5⟩, HS0, HS1⟩
  iapply Hk
  isplitl [H1]; · iexact H1
  isplitl [H2]; · iexact H2
  isplitl [H3]; · iexact H3
  isplitl [H4]; · iexact H4
  isplitl [H5]
  · unfold owns; iexists _; isplitr; swap; · iexact H5
    ipureintro
    exact View.read_writes_eq_canon _ _ _ (View.cover_of_tiledL _ S96x256.size (main_tiled c i arg1 harg1 arg2 harg2 arg3 harg3 arg4 harg4 arg5 harg5 arg6 harg6 arg7 harg7 arg8 harg8 arg9 harg9 arg10 harg10 x1 x2 x3 x4 L X))
  isplitl [HS0]; · iexact HS0
  iexact HS1

/-- `quant`, the four buffers it writes at their contents. -/
theorem quant_spec (x0 : Vec F S96x4096 .bf16) (E : Set ℕ) (K : PUnit → sProp 𝕄) :
    iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg7 fullShare (codesOut c i arg1 harg1 arg2 harg2 arg3 harg3 arg4 harg4 arg5 harg5 arg6 harg6 arg7 harg7 arg8 harg8 arg9 harg9 arg10 harg10 x0) ∗ owns (c : Thread nD τ) arg8 fullShare (scalesOut c i arg1 harg1 arg2 harg2 arg3 harg3 arg4 harg4 arg5 harg5 arg6 harg6 arg7 harg7 arg8 harg8 arg9 harg9 arg10 harg10 x0) ∗ owns (c : Thread nD τ) arg9 fullShare (lhsOut c i arg1 harg1 arg2 harg2 arg3 harg3 arg4 harg4 arg5 harg5 arg6 harg6 arg7 harg7 arg8 harg8 arg9 harg9 arg10 harg10 x0) ∗ owns (c : Thread nD τ) arg10 fullShare (xsOut c i arg1 harg1 arg2 harg2 arg3 harg3 arg4 harg4 arg5 harg5 arg6 harg6 arg7 harg7 arg8 harg8 arg9 harg9 arg10 harg10 x0)) -∗ K ⟨⟩))
      ⊢ wp frame (wpE (defs₀ (F := F)) Variants.none c none) E (quant i arg1 harg1 arg2 harg2 arg3 harg3 arg4 harg4 arg5 harg5 arg6 harg6 arg7 harg7 arg8 harg8 arg9 harg9 arg10 harg10) K := by
  iintro ⟨H0, H6, H7, HS0, HS1, Hk⟩
  iapply ((quantRun c i arg1 harg1 arg2 harg2 arg3 harg3 arg4 harg4 arg5 harg5 arg6 harg6 arg7 harg7 arg8 harg8 arg9 harg9 arg10 harg10 x0).2.2.2.2 E K)
  isplitl [H0]; · iexact H0
  isplitl [H6]; · iexact H6
  isplitl [H7]; · iexact H7
  isplitl [HS0]; · iexact HS0
  isplitl [HS1]; · iexact HS1
  iintro ⟨H0, ⟨%f6, H6⟩, ⟨%f7, H7⟩, ⟨%g0, HS0⟩, ⟨%g1, HS1⟩⟩
  iapply Hk
  isplitl [H0]; · iexact H0
  isplitl [H6]
  · unfold owns; iexists _; isplitr; swap; · iexact H6
    ipureintro
    exact View.read_writes_eq_canon _ _ _ (View.cover_of_tiledL _ S96x128.size (codes_tiled c i arg1 harg1 arg2 harg2 arg3 harg3 arg4 harg4 arg5 harg5 arg6 harg6 arg7 harg7 arg8 harg8 arg9 harg9 arg10 harg10 x0))
  isplitl [H7]
  · unfold owns; iexists _; isplitr; swap; · iexact H7
    ipureintro
    exact View.read_writes_eq_canon _ _ _ (View.cover_of_tiledL _ S96x32.size (scales_tiled c i arg1 harg1 arg2 harg2 arg3 harg3 arg4 harg4 arg5 harg5 arg6 harg6 arg7 harg7 arg8 harg8 arg9 harg9 arg10 harg10 x0))
  isplitl [HS0]
  · unfold owns; iexists _; isplitr; swap; · iexact HS0
    ipureintro
    exact View.read_writes_eq_canon _ _ _ (View.cover_of_tiledL _ S1x96x128.size (lhs_tiled c i arg1 harg1 arg2 harg2 arg3 harg3 arg4 harg4 arg5 harg5 arg6 harg6 arg7 harg7 arg8 harg8 arg9 harg9 arg10 harg10 x0))
  unfold owns; iexists _; isplitr; swap; · iexact HS1
  ipureintro
  exact View.read_writes_eq_canon _ _ _ (View.cover_of_tiledL _ S1x96x128.size (xs_tiled c i arg1 harg1 arg2 harg2 arg3 harg3 arg4 harg4 arg5 harg5 arg6 harg6 arg7 harg7 arg8 harg8 arg9 harg9 arg10 harg10 x0))

end Runs

end Cert.Kernel.Hand

end
-- ==== Proof.KFrame.lean ====
/- The pipeline's proof data with every output named, the body's triple at every grid point, and the run of the whole
   kernel: what each array holds after it. -/
module

public import proofs.«01_k».proof.Proof.KStages
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Each window's current staging memref at point `t`, spelled as the pipeline passes it (`bodyAt0`), and its wholeness. -/
abbrev ms0_0 (t : Fin cfg0.N) : Memref sig .tc .vmem S96x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S112x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S112x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x192x256 .fp8e4m3 := Memref.whole cc0_scratch0
abbrev scM0_1 : Memref sig .tc .vmem S32x96x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold -/

/-- The first grid point. -/
def t0 : Fin cfg0.N := ⟨0, lt_of_lt_of_eq (by decide : 0 < 28) N_0.symm⟩

/-- The codes, the scales and the scratch buffers as the first point leaves them, -/
def codesAt (c : Dev nD) : Vec F S96x4096 .fp8e4m3 := codesOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def scalesAt (c : Dev nD) : Vec F S96x32 .f32 := scalesOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def lhsAt (c : Dev nD) : Vec F S16x192x256 .fp8e4m3 := lhsOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
def xsAt (c : Dev nD) : Vec F S32x96x128 .f32 := xsOut c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0)
/-- and the output block as point `t` leaves it. -/
def mainAt (c : Dev nD) (t : Fin cfg0.N) : Vec F S96x512 .bf16 :=
  mainOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 1 t) (iblk m c 2 t) (iblk m c 3 t) (iblk m c 4 t) (lhsAt m c) (xsAt m c)

/-- What the core holds beside the windows from the second point on: the scratch buffers as the first point left them. -/
def ΦS (c : Dev nD) : sProp 𝕄 :=
  iprop(iprop(owns (c : Thread nD τ) scM0_0 fullShare (lhsAt m c) ∗ owns (c : Thread nD τ) scM0_1 fullShare (xsAt m c)) ∗ (∃ r, prngReg c r))

/-- The proof data: inputs stay at their blocks, the outputs and the scratch buffers as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => mainAt m c t
    | ⟨6, _⟩ => codesAt m c
    | ⟨7, _⟩ => scalesAt m c
  Φ t := if t.val = 0 then Pipeline.ΦA spec0 c else ΦS m c
  q _ := fullShare
  owed _ := 0

theorem Φ_zero (c : Dev nD) (t : Fin (cfg0.N + 1)) (h : t.val = 0) : (dats m 0 c).Φ t = Pipeline.ΦA spec0 c := by
  dsimp only [dats]; exact if_pos h
theorem Φ_pos (c : Dev nD) (t : Fin (cfg0.N + 1)) (h : ¬ t.val = 0) : (dats m 0 c).Φ t = ΦS m c := by
  dsimp only [dats]; exact if_neg h

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = mainAt m c t := by dsimp only [dats]
theorem after0_6 (c : Dev nD) (t : Fin cfg0.N) : (dats m 0 c).after 6 t = codesAt m c := by dsimp only [dats]
theorem after0_7 (c : Dev nD) (t : Fin cfg0.N) : (dats m 0 c).after 7 t = scalesAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6's buffer is stored at the first point only, -/
theorem live0_6 (t : Fin cfg0.N) (h : t.val % 28 = 0) : cfg0.idle 6 (grid0.coords t) = false := by
  show (!(k0_cond1 (grid0.coords t) == 1#1)) = false
  rw [(hcond0_0 t).mpr h]; rfl
theorem idle0_6 (t : Fin cfg0.N) (h : ¬ t.val % 28 = 0) : cfg0.idle 6 (grid0.coords t) = true := by
  show (!(k0_cond1 (grid0.coords t) == 1#1)) = true
  rw [beq_false_of_ne fun e => h ((hcond0_0 t).mp e)]; rfl
theorem fetchOut0_6 (t : Fin cfg0.N) : (cfg0.win 6).fetch t = false := rfl
theorem noflush0_6 (t : Fin cfg0.N) (h : ¬ t.val % 28 = 27) : (cfg0.win 6).flush t = false :=
  Bool.eq_false_iff.mpr fun e => h ((flush0_6 t).mp e)
/-- so every later point finds there what the first left. -/
theorem before0_6 (c : Dev nD) : ∀ (n : ℕ) (t : Fin cfg0.N), t.val = n + 1 → ∀ d, (dats m 0 c).before 6 t d = codesAt m c
  | 0, t, ht, d => by
    have hN : t.val < 28 := lt_of_lt_of_eq t.isLt N_0
    rw [(dats m 0 c).before_of_pos 6 t (by omega) (fetchOut0_6 t) d, noflush0_6 _ (by show ¬ (t.val - 1) % 28 = 27; omega), if_neg Bool.false_ne_true]
    unfold Dat.left
    rw [live0_6 _ (by show (t.val - 1) % 28 = 0; omega)]
    exact after0_6 m c _
  | n + 1, t, ht, d => by
    have hN : t.val < 28 := lt_of_lt_of_eq t.isLt N_0
    rw [(dats m 0 c).before_of_pos 6 t (by omega) (fetchOut0_6 t) d, noflush0_6 _ (by show ¬ (t.val - 1) % 28 = 27; omega), if_neg Bool.false_ne_true]
    unfold Dat.left
    rw [idle0_6 _ (by show ¬ (t.val - 1) % 28 = 0; omega)]
    exact before0_6 c n ⟨t.val - 1, by omega⟩ (by show t.val - 1 = n + 1; omega) d

/-- Window 7's buffer is stored at the first point only, -/
theorem live0_7 (t : Fin cfg0.N) (h : t.val % 28 = 0) : cfg0.idle 7 (grid0.coords t) = false := by
  show (!(k0_cond1 (grid0.coords t) == 1#1)) = false
  rw [(hcond0_0 t).mpr h]; rfl
theorem idle0_7 (t : Fin cfg0.N) (h : ¬ t.val % 28 = 0) : cfg0.idle 7 (grid0.coords t) = true := by
  show (!(k0_cond1 (grid0.coords t) == 1#1)) = true
  rw [beq_false_of_ne fun e => h ((hcond0_0 t).mp e)]; rfl
theorem fetchOut0_7 (t : Fin cfg0.N) : (cfg0.win 7).fetch t = false := rfl
theorem noflush0_7 (t : Fin cfg0.N) (h : ¬ t.val % 28 = 27) : (cfg0.win 7).flush t = false :=
  Bool.eq_false_iff.mpr fun e => h ((flush0_7 t).mp e)
/-- so every later point finds there what the first left. -/
theorem before0_7 (c : Dev nD) : ∀ (n : ℕ) (t : Fin cfg0.N), t.val = n + 1 → ∀ d, (dats m 0 c).before 7 t d = scalesAt m c
  | 0, t, ht, d => by
    have hN : t.val < 28 := lt_of_lt_of_eq t.isLt N_0
    rw [(dats m 0 c).before_of_pos 7 t (by omega) (fetchOut0_7 t) d, noflush0_7 _ (by show ¬ (t.val - 1) % 28 = 27; omega), if_neg Bool.false_ne_true]
    unfold Dat.left
    rw [live0_7 _ (by show (t.val - 1) % 28 = 0; omega)]
    exact after0_7 m c _
  | n + 1, t, ht, d => by
    have hN : t.val < 28 := lt_of_lt_of_eq t.isLt N_0
    rw [(dats m 0 c).before_of_pos 7 t (by omega) (fetchOut0_7 t) d, noflush0_7 _ (by show ¬ (t.val - 1) % 28 = 27; omega), if_neg Bool.false_ne_true]
    unfold Dat.left
    rw [idle0_7 _ (by show ¬ (t.val - 1) % 28 = 0; omega)]
    exact before0_7 c n ⟨t.val - 1, by omega⟩ (by show t.val - 1 = n + 1; omega) d

/-- What a later point must leave in window 6's buffer is what it found. -/
theorem keeps0_6 (c : Dev nD) (t : Fin cfg0.N) (h : ¬ t.val % 28 = 0) :
    (dats m 0 c).leavesExact 6 t = (iprop(owns (c : Thread nD τ) (ms0_6 t) fullShare (codesAt m c)) : sProp 𝕄)
      ∨ (dats m 0 c).leavesExact 6 t = (iprop(∃ d, owns (c : Thread nD τ) (ms0_6 t) fullShare ((dats m 0 c).before 6 t d)) : sProp 𝕄) := by
  by_cases hf : t.val % 28 = 27
  · left
    unfold Dat.leavesExact
    rw [idle0_6 t h, (flush0_6 t).mpr hf]
    show owns _ _ _ ((dats m 0 c).after 6 t) = _
    rw [after0_6]
  · right
    exact (dats m 0 c).leavesExact_idle 6 t (idle0_6 t h) (noflush0_6 t hf)

/-- What a later point must leave in window 7's buffer is what it found. -/
theorem keeps0_7 (c : Dev nD) (t : Fin cfg0.N) (h : ¬ t.val % 28 = 0) :
    (dats m 0 c).leavesExact 7 t = (iprop(owns (c : Thread nD τ) (ms0_7 t) fullShare (scalesAt m c)) : sProp 𝕄)
      ∨ (dats m 0 c).leavesExact 7 t = (iprop(∃ d, owns (c : Thread nD τ) (ms0_7 t) fullShare ((dats m 0 c).before 7 t d)) : sProp 𝕄) := by
  by_cases hf : t.val % 28 = 27
  · left
    unfold Dat.leavesExact
    rw [idle0_7 t h, (flush0_7 t).mpr hf]
    show owns _ _ _ ((dats m 0 c).after 7 t) = _
    rw [after0_7]
  · right
    exact (dats m 0 c).leavesExact_idle 7 t (idle0_7 t h) (noflush0_7 t hf)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the first point quantises and then computes, the others compute. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Φ_pos m c t.succ (Nat.succ_ne_zero _)]
  have hN : t.val < 28 := lt_of_lt_of_eq t.isLt (show cfg0.N = 28 from N_0)
  rw [body_eq]
  by_cases h0 : t.val % 28 = 0
  · have ht : t = t0 := Fin.ext (by show t.val = 0; omega)
    rw [Φ_zero m c t.castSucc (by show t.val = 0; omega), PhiA0_eq]
    rw [if_pos ((hcond0_0 t).mpr h0), wp_bind]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [show cfg0.idle 5 (grid0.coords t) = false from rfl], after0_5]
    rw [show (dats m 0 c).leavesExact 6 t = owns (c : Thread nD τ) (ms0_6 t) fullShare ((dats m 0 c).after 6 t) from by
      unfold Dat.leavesExact; rw [live0_6 t h0], after0_6]
    rw [show (dats m 0 c).leavesExact 7 t = owns (c : Thread nD τ) (ms0_7 t) fullShare ((dats m 0 c).after 7 t) from by
      unfold Dat.leavesExact; rw [live0_7 t h0], after0_7]
    subst ht
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (quant_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 0 t0) Set.univ _)
    isplitl [H0]; · iexact H0
    isplitl [H6]; · iexists _; iexact H6
    isplitl [H7]; · iexists _; iexact H7
    isplitl [HS0]; · iexact HS0
    isplitl [HS1]; · iexact HS1
    iintro ⟨H0, H6, H7, HS0, HS1⟩
    iapply (main_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) (iblk m c 1 t0) (iblk m c 2 t0) (iblk m c 3 t0) (iblk m c 4 t0) (lhsAt m c) (xsAt m c) Set.univ _)
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H1, H2, H3, H4, H5, HS0, HS1⟩
    isplitl [HS0 HS1 Hg]
    · unfold ΦS
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Φ_pos m c t.castSucc (by show ¬ t.val = 0; omega)]
    rw [if_neg (fun h => h0 ((hcond0_0 t).mp h)), pure_bind]
    have b6 : ∀ d, (dats m 0 c).before 6 t d = codesAt m c := before0_6 m c (t.val - 1) t (by omega)
    have b7 : ∀ d, (dats m 0 c).before 7 t d = scalesAt m c := before0_7 m c (t.val - 1) t (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [show cfg0.idle 5 (grid0.coords t) = false from rfl], after0_5]
    have e6 : (owns (c : Thread nD τ) (ms0_6 t) fullShare (codesAt m c) : sProp 𝕄) ⊢ (dats m 0 c).leavesExact 6 t := by
      rcases keeps0_6 m c t h0 with e | e
      · rw [e]
      · rw [e]; simp only [b6]; iintro H; iexists (codesAt m c); iexact H
    have e7 : (owns (c : Thread nD τ) (ms0_7 t) fullShare (scalesAt m c) : sProp 𝕄) ⊢ (dats m 0 c).leavesExact 7 t := by
      rcases keeps0_7 m c t h0 with e | e
      · rw [e]
      · rw [e]; simp only [b7]; iintro H; iexists (scalesAt m c); iexact H
    simp only [b6, b7]
    unfold ΦS
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (main_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 1 t) (iblk m c 2 t) (iblk m c 3 t) (iblk m c 4 t) (lhsAt m c) (xsAt m c) Set.univ _)
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply e6; iexact H6
    iapply e7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Φ_first (c : Dev nD) : (Pipeline.ΦA spec0 c : sProp 𝕄) ⊢ (dats (F := F) m 0 c).Φ 0 := by
  rw [Φ_zero m c 0 rfl]
theorem Φ_last (c : Dev nD) : (dats (F := F) m 0 c).Φ (Fin.last cfg0.N) ⊢ (Pipeline.ΦA spec0 c : sProp 𝕄) := by
  rw [Φ_pos m c _ (by show ¬ cfg0.N = 0; rw [show cfg0.N = 28 from N_0]; decide), PhiA0_eq]
  unfold ΦS
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The run: every array as the proof data say, every semaphore counter at zero. -/
theorem run_main_quiescent : θ_run defs (onTc (τ := τ) (Cert.Kernel.main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ Cert.Kernel.main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_first m) (hout := Φ_last m)

theorem run_main : θ_run defs (onTc (τ := τ) (Cert.Kernel.main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the arguments end unchanged, the counters at zero. -/
theorem frame : θ_run defs (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.QuantForm.lean ====
/- The tiles that the first grid point's stage stores, as families over the groups: each is one function of its group's
   128 columns of the activations. -/
module

public import proofs.«01_k».proof.Proof.Stages

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
variable {F : FTy → Type} [FloatOps F]

theorem inb_tile (g : Fin 32) : ∀ a : Fin 2, (![0, 128 * g.val] : Fin 2 → ℕ) a + (![96, 128] : Fin 2 → ℕ) a ≤ S96x4096.size a := by
  intro a; fin_cases a
  · show 0 + 96 ≤ 96; omega
  · show 128 * g.val + 128 ≤ 4096; omega

/-- Group `g`'s columns of the activations. -/
def tile (x0 : Vec F S96x4096 .bf16) (g : Fin 32) : Vec F S96x128 .bf16 :=
  View.ld x0 (Rect.unit (s := S96x4096) ![0, 128 * g.val] ![96, 128] (inb_tile g))

/-- The same columns as the stage reads them from its buffer. -/
def tileR (arg1 : Memref sig .tc .vmem S96x4096 .bf16) (harg1 : arg1.IsWhole) (x0 : Vec F S96x4096 .bf16) (g : Fin 32) : Vec F S96x128 .bf16 :=
  View.readAt (Elt F) arg1.view (Rect.unit (s := S96x4096) ![0, 128 * g.val] ![96, 128] (inb_tile g)).toLoadRect (harg1.unread x0)

theorem tileR_eq (arg1 : Memref sig .tc .vmem S96x4096 .bf16) (harg1 : arg1.IsWhole) (x0 : Vec F S96x4096 .bf16) (g : Fin 32) :
    tileR arg1 harg1 x0 g = tile x0 g := by
  unfold tileR tile
  rw [View.readAt_eq_ld, harg1.read_unread]

/-- A group's scale, from its columns. -/
def scaleV (v : Vec F S96x128 .bf16) : FVec F S96x1 .f32 := k0_pay10 (k0_pay5 v) (k0_pay6 v) (k0_pay7 v) k0_pay8

/-- A group's codes, from its columns. -/
def codeV (v : Vec F S96x128 .bf16) : FVec F S96x128 .fp8e4m3 :=
  k0_pay12 (k0_pay11 (k0_pay4 v) (k0_pay5 v) (k0_pay6 v) (k0_pay7 v) k0_pay8)

/-- One group's step of the scales: lane `g` takes the group's scale. -/
def putScale (g : ℕ) (s : FVec F S96x1 .f32) (acc : FVec F S96x32 .f32) : FVec F S96x32 .f32 :=
  select (cmpi .eq (iota .tc S96x32 32 [1] iota_S96x32_d1_w32) (broadcast S96x32 (BitVec.ofNat 32 g)))
    (broadcastTo S96x32 (shapeCast S96x1 s shapeCasts_S96x1_S96x1) broadcasts_S96x1_S96x32) acc

/-- The scales after the first `n` groups. -/
def scalesAcc (T : Fin 32 → Vec F S96x128 .bf16) : (n : ℕ) → n ≤ 32 → FVec F S96x32 .f32
  | 0, _ => broadcast S96x32 (Scalar.ofBits .f32 0x00000000#32)
  | n + 1, h => putScale n (scaleV (T ⟨n, h⟩)) (scalesAcc T n (by omega))

theorem inb_xs (g : Fin 32) : ∀ a : Fin 3, (![g.val, 0, 0] : Fin 3 → ℕ) a + (![1, 96, 128] : Fin 3 → ℕ) a ≤ S32x96x128.size a := by
  intro a; fin_cases a
  · show g.val + 1 ≤ 32; omega
  · show 0 + 96 ≤ 96; omega
  · show 0 + 128 ≤ 128; omega

theorem inb_lhs (p : Fin 16) (a b : Fin 2) : ∀ d : Fin 3, (![p.val, 96 * a.val, 128 * b.val] : Fin 3 → ℕ) d + (![1, 96, 128] : Fin 3 → ℕ) d ≤ S16x192x256.size d := by
  intro d; fin_cases d
  · show p.val + 1 ≤ 16; omega
  · show 96 * a.val + 96 ≤ 192; omega
  · show 128 * b.val + 128 ≤ 256; omega

/-- The zero tile. -/
def zeroT : FVec F S1x96x128 .fp8e4m3 := k0_pay16 k0_pay3

/-- The stacked tile of pair `p`, half `a`, columns `b`: group `2 * p + a`'s codes at `b = a`, zeros beside them. -/
def lhsT (T : Fin 32 → Vec F S96x128 .bf16) (p : Fin 16) (a b : Fin 2) : FVec F S1x96x128 .fp8e4m3 :=
  if a.val = b.val then shapeCast S1x96x128 (codeV (T ⟨2 * p.val + a.val, by omega⟩)) shapeCasts_S96x128_S1x96x128 else zeroT

/-- The order in which the four tiles of a pair are stored, last first. -/
def lhsPieces (T : Fin 32 → Vec F S96x128 .bf16) (p : Fin 16) : List (View.Piece (Elt F) S16x192x256 .fp8e4m3) :=
  [⟨Rect.unit ![p.val, 96 * (1 : Fin 2).val, 128 * (0 : Fin 2).val] ![1, 96, 128] (inb_lhs p 1 0), lhsT T p 1 0⟩,
   ⟨Rect.unit ![p.val, 96 * (1 : Fin 2).val, 128 * (1 : Fin 2).val] ![1, 96, 128] (inb_lhs p 1 1), lhsT T p 1 1⟩,
   ⟨Rect.unit ![p.val, 96 * (0 : Fin 2).val, 128 * (1 : Fin 2).val] ![1, 96, 128] (inb_lhs p 0 1), lhsT T p 0 1⟩,
   ⟨Rect.unit ![p.val, 96 * (0 : Fin 2).val, 128 * (0 : Fin 2).val] ![1, 96, 128] (inb_lhs p 0 0), lhsT T p 0 0⟩]

variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

theorem codes_form (x0 : Vec F S96x4096 .bf16) : (quantRun c i arg1 harg1 arg2 harg2 arg3 harg3 arg4 harg4 arg5 harg5 arg6 harg6 arg7 harg7 arg8 harg8 arg9 harg9 arg10 harg10 x0).1 =
    List.ofFn fun k : Fin 32 => (⟨Rect.unit ![0, 128 * k.rev.val] ![96, 128] (inb_tile k.rev), codeV (tileR arg1 harg1 x0 k.rev)⟩ : View.Piece (Elt F) S96x4096 .fp8e4m3) := by sl_kernel_rfl

theorem xs_form (x0 : Vec F S96x4096 .bf16) : (quantRun c i arg1 harg1 arg2 harg2 arg3 harg3 arg4 harg4 arg5 harg5 arg6 harg6 arg7 harg7 arg8 harg8 arg9 harg9 arg10 harg10 x0).2.2.2.1 =
    List.ofFn fun k : Fin 32 => (⟨Rect.unit ![k.rev.val, 0, 0] ![1, 96, 128] (inb_xs k.rev), k0_pay14 (scaleV (tileR arg1 harg1 x0 k.rev))⟩ : View.Piece (Elt F) S32x96x128 .f32) := by sl_kernel_rfl

theorem scales_form (x0 : Vec F S96x4096 .bf16) : (quantRun c i arg1 harg1 arg2 harg2 arg3 harg3 arg4 harg4 arg5 harg5 arg6 harg6 arg7 harg7 arg8 harg8 arg9 harg9 arg10 harg10 x0).2.1 =
    [(⟨Rect.unit ![0, 0] ![96, 32] inb_S96x32_S96x32_0_0, scalesAcc (tileR arg1 harg1 x0) 32 (le_refl _)⟩ : View.Piece (Elt F) S96x32 .f32)] := by sl_kernel_rfl

theorem lhs_form (x0 : Vec F S96x4096 .bf16) : (quantRun c i arg1 harg1 arg2 harg2 arg3 harg3 arg4 harg4 arg5 harg5 arg6 harg6 arg7 harg7 arg8 harg8 arg9 harg9 arg10 harg10 x0).2.2.1 =
    (List.ofFn fun p : Fin 16 => lhsPieces (tileR arg1 harg1 x0) p.rev).flatten := by sl_kernel_rfl

end Cert.KernelIdeal.Hand
end
-- ==== Proof.Scale.lean ====
/- The power-of-two scale of a group, from the number that the group's maximum over 448 is: the kernel finds the exponent
   bit by bit, the reference counts the powers of two that the number reaches. -/
module

public import proofs.«01_k».proof.Proof.QuantForm
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen

/-- The float32 with exponent field `n` and no fraction. -/
def thr (n : ℕ) : EReal := Ideal.ofBits .f32 (BitVec.ofNat 32 (n * 2 ^ 23))

theorem bits_exp (n : ℕ) (h : n ≤ 255) : ((BitVec.ofNat 32 (n * 2 ^ 23)).extractLsb' 23 8).toNat = n := by
  rw [BitVec.extractLsb'_toNat, BitVec.toNat_ofNat, Nat.shiftRight_eq_div_pow, Nat.mod_eq_of_lt (show n * 2 ^ 23 < 2 ^ 32 by omega),
    Nat.mul_div_cancel _ (by norm_num)]
  exact Nat.mod_eq_of_lt (by omega)

theorem bits_frac (n : ℕ) (h : n ≤ 255) : ((BitVec.ofNat 32 (n * 2 ^ 23)).extractLsb' 0 23).toNat = 0 := by
  rw [BitVec.extractLsb'_toNat, BitVec.toNat_ofNat, Nat.shiftRight_eq_div_pow, Nat.mod_eq_of_lt (show n * 2 ^ 23 < 2 ^ 32 by omega),
    Nat.pow_zero, Nat.div_one]
  exact Nat.mul_mod_left _ _

theorem bits_sign (n : ℕ) (h : n ≤ 255) : ((BitVec.ofNat 32 (n * 2 ^ 23)).extractLsb' (8 + 23) 1 == 1#1) = false := by
  rw [beq_eq_false_iff_ne]
  intro h1
  have h2 := congrArg BitVec.toNat h1
  rw [BitVec.extractLsb'_toNat, BitVec.toNat_ofNat, Nat.shiftRight_eq_div_pow, Nat.mod_eq_of_lt (by omega), Nat.div_eq_of_lt (by omega)] at h2
  exact absurd h2 (by decide)

/-- A normal float32 with no sign. -/
theorem ieee_norm (b : BitVec 32) (E T : ℕ) (hE : (b.extractLsb' 23 8).toNat = E) (hT : (b.extractLsb' 0 23).toNat = T)
    (hs : (b.extractLsb' (8 + 23) 1 == 1#1) = false) (h1 : 1 ≤ E) (h2 : E ≤ 254) :
    Ideal.ieee 8 23 b = ((((8388608 + T : ℕ) : ℝ) * (2 : ℝ) ^ ((E : ℤ) - 150) : ℝ) : EReal) := by
  unfold Ideal.ieee
  simp only [hE, hT, hs]
  rw [if_neg (by omega), if_neg (by omega)]
  have e : ((E : ℤ) - (2 ^ (8 - 1) - 1) - ((23 : ℕ) : ℤ)) = (E : ℤ) - 150 := by norm_num; ring
  have e2 : (2 ^ 23 + T : ℕ) = 8388608 + T := by norm_num
  rw [e, e2]
  simp

theorem two_pow_23 (z : ℤ) : ((8388608 : ℝ)) * (2 : ℝ) ^ (z - 150) = (2 : ℝ) ^ (z - 127) := by
  have : (8388608 : ℝ) = (2 : ℝ) ^ (23 : ℤ) := by norm_num
  rw [this, ← zpow_add₀ (by norm_num : (2 : ℝ) ≠ 0)]
  exact congrArg _ (by ring)

theorem thr_mid (n : ℕ) (h1 : 1 ≤ n) (h2 : n ≤ 254) : thr n = (((2 : ℝ) ^ ((n : ℤ) - 127) : ℝ) : EReal) := by
  refine (ieee_norm _ n 0 (bits_exp n (by omega)) (bits_frac n (by omega)) (bits_sign n (by omega)) h1 h2).trans ?_
  exact congrArg _ ((congrArg (· * _) (by norm_num)).trans (two_pow_23 n))

theorem thr_zero : thr 0 = 0 := by
  have e : BitVec.ofNat 32 (0 * 2 ^ 23) = 0x00000000#32 := by decide
  unfold thr
  rw [e, Ideal.ofBits_zero_f32]

theorem ieee_top (b : BitVec 32) (hE : (b.extractLsb' 23 8).toNat = 255) (hT : (b.extractLsb' 0 23).toNat = 0)
    (hs : (b.extractLsb' (8 + 23) 1 == 1#1) = false) : Ideal.ieee 8 23 b = ⊤ := by
  unfold Ideal.ieee
  simp only [hE, hT, hs]
  simp

theorem thr_top : thr 255 = ⊤ :=
  ieee_top _ (bits_exp 255 (by omega)) (bits_frac 255 (by omega)) (bits_sign 255 (by omega))

theorem thr_mono (n m : ℕ) (h : n ≤ m) (hm : m ≤ 255) : thr n ≤ thr m := by
  rcases Nat.eq_zero_or_pos n with rfl | hn
  · rw [thr_zero]
    rcases Nat.eq_zero_or_pos m with rfl | hm0
    · rw [thr_zero]
    · rcases Nat.lt_or_ge m 255 with h2 | h2
      · rw [thr_mid m hm0 (by omega)]; exact EReal.coe_nonneg.mpr (by positivity)
      · obtain rfl : m = 255 := by omega
        rw [thr_top]; exact le_top
  · rcases Nat.lt_or_ge m 255 with h2 | h2
    · rw [thr_mid m (by omega) (by omega), thr_mid n hn (by omega)]
      exact EReal.coe_le_coe_iff.mpr (zpow_le_zpow_right₀ (by norm_num) (by omega))
    · obtain rfl : m = 255 := by omega
      rw [thr_top]; exact le_top

/-- The exponent field of a nonnegative number: the last threshold that it reaches. -/
def fieldOf (y : EReal) : ℕ := by
  classical exact Nat.findGreatest (fun n => thr n ≤ y) 255

theorem fieldOf_le (y : EReal) : fieldOf y ≤ 255 := Nat.findGreatest_le 255

theorem thr_le_iff (y : EReal) (hy : 0 ≤ y) (n : ℕ) (hn : n ≤ 255) : thr n ≤ y ↔ n ≤ fieldOf y := by
  classical
  constructor
  · intro h
    unfold fieldOf
    exact Nat.le_findGreatest hn h
  · intro h
    have h0 : thr (fieldOf y) ≤ y := by
      unfold fieldOf
      exact Nat.findGreatest_spec (P := fun n => thr n ≤ y) (Nat.zero_le 255) (by rw [thr_zero]; exact hy)
    exact (thr_mono n _ h (fieldOf_le y)).trans h0

/-- One step of the kernel's search. -/
def stepOf (y : Ideal .f32) (acc bit : BitVec 32) : BitVec 32 :=
  Scalar.select (FloatOps.cmpf .oge y (FloatOps.ofBits .f32 (IntOp.shli .vector (IntOp.addi acc bit) 23#32) : Ideal .f32))
    (IntOp.addi acc bit) acc

/-- The kernel's search. -/
def searchOf (y : Ideal .f32) : BitVec 32 :=
  stepOf y (stepOf y (stepOf y (stepOf y (stepOf y (stepOf y (stepOf y (stepOf y 0#32 128#32) 64#32) 32#32) 16#32) 8#32) 4#32) 2#32) 1#32

theorem shl23 (n : ℕ) : IntOp.shli .vector (BitVec.ofNat 32 n) 23#32 = BitVec.ofNat 32 (n * 2 ^ 23) := by
  have e : IntOp.shli .vector (BitVec.ofNat 32 n) 23#32 = BitVec.ofNat 32 n <<< 23 := rfl
  rw [e]
  apply BitVec.eq_of_toNat_eq
  rw [BitVec.toNat_shiftLeft, BitVec.toNat_ofNat, BitVec.toNat_ofNat, Nat.shiftLeft_eq, Nat.mod_mul_mod]

theorem stepOf_eq (y : Ideal .f32) (hy : (0 : EReal) ≤ y) (a k : ℕ) (h : a + k ≤ 255) (h1 : a ≤ fieldOf y) (h2 : fieldOf y < a + 2 * k) :
    ∃ a' : ℕ, stepOf y (BitVec.ofNat 32 a) (BitVec.ofNat 32 k) = BitVec.ofNat 32 a' ∧ a' ≤ fieldOf y ∧ fieldOf y < a' + k ∧ a' ≤ a + k := by
  have hadd : IntOp.addi (BitVec.ofNat 32 a) (BitVec.ofNat 32 k) = BitVec.ofNat 32 (a + k) := by
    show BitVec.ofNat 32 a + BitVec.ofNat 32 k = _
    rw [BitVec.ofNat_add]
  have hsh := shl23 (a + k)
  unfold stepOf
  rw [hadd, hsh]
  have hcmp : FloatOps.cmpf .oge y (FloatOps.ofBits .f32 (BitVec.ofNat 32 ((a + k) * 2 ^ 23)) : Ideal .f32) = BitVec.ofBool (decide (thr (a + k) ≤ y)) := rfl
  rw [hcmp]
  by_cases hc : a + k ≤ fieldOf y
  · rw [decide_eq_true ((thr_le_iff y hy _ h).mpr hc)]
    exact ⟨a + k, rfl, hc, by omega, le_refl _⟩
  · rw [decide_eq_false (fun h' => hc ((thr_le_iff y hy _ h).mp h'))]
    exact ⟨a, rfl, h1, by omega, by omega⟩

theorem searchOf_eq (y : Ideal .f32) (hy : (0 : EReal) ≤ y) : searchOf y = BitVec.ofNat 32 (fieldOf y) := by
  have h255 := fieldOf_le y
  obtain ⟨a1, e1, l1, u1, b1⟩ := stepOf_eq y hy 0 128 (by omega) (by omega) (by omega)
  obtain ⟨a2, e2, l2, u2, b2⟩ := stepOf_eq y hy a1 64 (by omega) (by omega) (by omega)
  obtain ⟨a3, e3, l3, u3, b3⟩ := stepOf_eq y hy a2 32 (by omega) (by omega) (by omega)
  obtain ⟨a4, e4, l4, u4, b4⟩ := stepOf_eq y hy a3 16 (by omega) (by omega) (by omega)
  obtain ⟨a5, e5, l5, u5, b5⟩ := stepOf_eq y hy a4 8 (by omega) (by omega) (by omega)
  obtain ⟨a6, e6, l6, u6, b6⟩ := stepOf_eq y hy a5 4 (by omega) (by omega) (by omega)
  obtain ⟨a7, e7, l7, u7, b7⟩ := stepOf_eq y hy a6 2 (by omega) (by omega) (by omega)
  obtain ⟨a8, e8, l8, u8, b8⟩ := stepOf_eq y hy a7 1 (by omega) (by omega) (by omega)
  unfold searchOf
  rw [e1, e2, e3, e4, e5, e6, e7, e8]
  congr 1
  omega

/-- The kernel's exponent: 0 at the two special fields. -/
def expOf (y : Ideal .f32) : BitVec 32 :=
  Scalar.select (IntOp.ori (IntOp.cmpi .eq (searchOf y) 0#32) (IntOp.cmpi .eq (searchOf y) 255#32)) 0#32 (IntOp.subi (searchOf y) 126#32)

/-- The exponent of a number's scale. -/
def eOf (y : EReal) : ℤ := if fieldOf y = 0 then 0 else (fieldOf y : ℤ) - 126

theorem expOf_bits (y : Ideal .f32) (hy : (0 : EReal) ≤ y) (hb : fieldOf y ≤ 246) :
    Ideal.ofBits .f32 (IntOp.shli .vector (IntOp.addi 127#32 (expOf y)) 23#32) = (((2 : ℝ) ^ eOf y : ℝ) : EReal)
    ∧ Ideal.ofBits .f32 (IntOp.shli .vector (IntOp.subi 127#32 (expOf y)) 23#32) = (((2 : ℝ) ^ (-eOf y) : ℝ) : EReal) := by
  have shl := shl23
  unfold expOf eOf
  rw [searchOf_eq y hy]
  generalize fieldOf y = c at *
  have c1 : IntOp.cmpi .eq (BitVec.ofNat 32 c) 255#32 = 0#1 := by
    show BitVec.ofBool (_ == _) = 0#1
    rw [beq_eq_false_iff_ne.mpr (fun h => by have h := congrArg BitVec.toNat h; simp only [BitVec.toNat_ofNat] at h; omega)]; rfl
  rw [c1]
  by_cases h0 : c = 0
  · subst h0
    have hs : Scalar.select (IntOp.ori (IntOp.cmpi .eq (BitVec.ofNat 32 0) 0#32) 0#1) 0#32 (IntOp.subi (BitVec.ofNat 32 0) 126#32) = BitVec.ofNat 32 0 := by decide
    rw [hs, if_pos rfl]
    have ha : IntOp.addi 127#32 (BitVec.ofNat 32 0) = BitVec.ofNat 32 127 := by decide
    have hb : IntOp.subi 127#32 (BitVec.ofNat 32 0) = BitVec.ofNat 32 127 := by decide
    rw [ha, hb, shl]
    have := thr_mid 127 (by omega) (by omega)
    unfold thr at this
    rw [this]
    norm_num
  · have c0 : IntOp.cmpi .eq (BitVec.ofNat 32 c) 0#32 = 0#1 := by
      show BitVec.ofBool (_ == _) = 0#1
      rw [beq_eq_false_iff_ne.mpr (fun h => by have h := congrArg BitVec.toNat h; simp only [BitVec.toNat_ofNat] at h; omega)]; rfl
    rw [c0, if_neg h0]
    have hs : Scalar.select (IntOp.ori 0#1 0#1) 0#32 (IntOp.subi (BitVec.ofNat 32 c) 126#32) = IntOp.subi (BitVec.ofNat 32 c) 126#32 := rfl
    rw [hs]
    have ha : IntOp.addi 127#32 (IntOp.subi (BitVec.ofNat 32 c) 126#32) = BitVec.ofNat 32 (c + 1) := by
      apply BitVec.eq_of_toNat_eq
      simp only [IntOp.addi, IntOp.subi, BitVec.toNat_add, BitVec.toNat_sub, BitVec.toNat_ofNat]
      omega
    have hb : IntOp.subi 127#32 (IntOp.subi (BitVec.ofNat 32 c) 126#32) = BitVec.ofNat 32 (253 - c) := by
      apply BitVec.eq_of_toNat_eq
      simp only [IntOp.addi, IntOp.subi, BitVec.toNat_add, BitVec.toNat_sub, BitVec.toNat_ofNat]
      omega
    rw [ha, hb, shl, shl]
    have t1 := thr_mid (c + 1) (by omega) (by omega)
    have t2 := thr_mid (253 - c) (by omega) (by omega)
    unfold thr at t1 t2
    rw [t1, t2]
    constructor
    · congr 2; push_cast; ring
    · congr 2; rw [Nat.cast_sub (by omega)]; push_cast; ring

end Cert.KernelIdeal.Hand
end
-- ==== Proof.Quant.lean ====
/- The quantiser of the kernel and the quantiser of the reference at an index, on the reals: one scale, one code. -/
module
public import proofs.«01_k».proof.Proof.Scale
public import proofs.«01_k».proof.Proof.Gen.ReferenceIdeal.Value
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen

theorem scaleV_eq (v : Vec Ideal S96x128 .bf16) (r : Fin 96) :
    scaleV v (ix2 r 0) = Ideal.ofBits .f32 (IntOp.shli .vector (IntOp.addi 127#32 (expOf (k0_pay5 v (ix2 r 0)))) 23#32) := by
  sl_kernel_rfl

theorem codeV_eq (v : Vec Ideal S96x128 .bf16) (r : Fin 96) (k : Fin 128) :
    codeV v (ix2 r k) = min (Ideal.ofBits .f32 0x43E00000#32) (max (Ideal.ofBits .f32 0xC3E00000#32)
      (v (ix2 r k) * Ideal.ofBits .f32 (IntOp.shli .vector (IntOp.subi 127#32 (expOf (k0_pay5 v (ix2 r 0)))) 23#32))) := by
  unfold codeV k0_pay12 k0_pay11 k0_pay4
  pointwise
  rfl

/-- A group's largest magnitude, -/
def gmax (f : Fin 128 → EReal) : EReal :=
  Finset.univ.fold max (Ideal.ofBits .f32 0xFF800000#32) fun k => max (f k) (-(f k))

/-- and that over 448, as both programs compute it. -/
def ratio (f : Fin 128 → EReal) : EReal := gmax f * Ideal.ofBits .f32 0x3B124925#32

/-- A group of zeros, or a group of finite numbers whose largest magnitude over 448 is a normal float32. -/
def InRange (f : Fin 128 → EReal) : Prop :=
  gmax f = 0 ∨ (gmax f ≤ Ideal.ofBits .f32 0x7F7F0000#32 ∧ Ideal.ofBits .f32 0x00800000#32 ≤ ratio f)

theorem kernel_ratio (v : Vec Ideal S96x128 .bf16) (r : Fin 96) : k0_pay5 v (ix2 r 0) = ratio (fun k => v (ix2 r k)) := by
  unfold k0_pay5 k0_pay4
  pointwise
  rfl

/-- The reference's exponent of a group, from its largest magnitude. -/
def refE (a : EReal) : Ideal .f32 :=
  FloatOps.sitofp .f32 (if a = 0 then 0#32 else
    IntOp.subi (Finset.fold IntOp.addi (0#32) (fun x : Fin 256 =>
      BitVec.setWidth 32 (IntOp.andi (IntOp.cmpi .sle (IntOp.subi (BitVec.ofNat 32 x.val) 125#32) 127#32)
        (BitVec.ofBool (decide ((FloatOps.exp2 (FloatOps.sitofp .f32 (IntOp.subi (BitVec.ofNat 32 x.val) 125#32) : Ideal .f32) : Ideal .f32) ≤ a * Ideal.ofBits .f32 0x3B124925#32)))))
      Finset.univ) 125#32)

/-- The reference's column of a group. -/
def rCol (g : Fin 32) (k : Fin 128) : Fin 4096 := ⟨g.val * 128 + k.val, by omega⟩

theorem ref_exp (v : Vec Ideal Cert.ReferenceIdeal.S96x1x4096 .bf16) (r : Fin 96) (g : Fin 32) :
    Cert.ReferenceIdeal.Gen.k0_pay2 (F := Ideal) v (ix3 r g 0) = refE (gmax (fun k => v (ix3 r 0 (rCol g k)))) := by
  unfold Cert.ReferenceIdeal.Gen.k0_pay2 Cert.ReferenceIdeal.Gen.k0_pay1
  pointwise
  rfl

theorem ref_scale (v : Vec Ideal Cert.ReferenceIdeal.S96x1x4096 .bf16) (r : Fin 96) (g : Fin 32) :
    Cert.ReferenceIdeal.Gen.k0_pay4 (F := Ideal) v (ix2 r g) = Ideal.exp2 (refE (gmax (fun k => v (ix3 r 0 (rCol g k))))) := by
  unfold Cert.ReferenceIdeal.Gen.k0_pay4
  pointwise
  rw [ref_exp]; rfl

theorem ref_code (v : Vec Ideal Cert.ReferenceIdeal.S96x1x4096 .bf16) (r : Fin 96) (g : Fin 32) (k : Fin 128) :
    Cert.ReferenceIdeal.Gen.k0_pay3 (F := Ideal) v (ix3 r g k) = min (Ideal.ofBits .f32 0x43E00000#32) (max (Ideal.ofBits .f32 0xC3E00000#32)
      (v (ix3 r 0 (rCol g k)) * Ideal.exp2 (0 - refE (gmax (fun k => v (ix3 r 0 (rCol g k))))))) := by
  unfold Cert.ReferenceIdeal.Gen.k0_pay3 Cert.ReferenceIdeal.Gen.k0_pay1
  pointwise
  rw [ref_exp]; rfl

/-! ## The reference's exponent is the kernel's -/

theorem exp2_int (z : ℤ) : Ideal.exp2 (((z : ℝ) : ℝ) : EReal) = (((2 : ℝ) ^ z : ℝ) : EReal) := by
  rw [Ideal.exp2_coe]
  exact congrArg _ (Real.rpow_intCast 2 z)

theorem toInt_sub_125 (n : ℕ) (h : n ≤ 256) : (IntOp.subi (BitVec.ofNat 32 n) 125#32).toInt = (n : ℤ) - 125 := by
  show (BitVec.ofNat 32 n - 125#32).toInt = _
  have h1 : (125#32).toInt = 125 := by decide
  have h2 : (BitVec.ofNat 32 n).toInt = n := by
    rw [BitVec.toInt_eq_toNat_bmod, BitVec.toNat_ofNat]
    simp only [Int.bmod]
    omega
  rw [BitVec.toInt_sub, h1, h2]
  simp only [Int.bmod]
  omega

theorem fold_ofNat {ι : Type} (s : Finset ι) (f : ι → ℕ) :
    s.fold IntOp.addi (0#32) (fun x => BitVec.ofNat 32 (f x)) = BitVec.ofNat 32 (∑ x ∈ s, f x) := by
  classical
  induction s using Finset.induction_on with
  | empty => rfl
  | insert a s ha ih =>
    rw [Finset.fold_insert ha, ih, Finset.sum_insert ha, BitVec.ofNat_add]
    rfl

theorem count_eq (c : ℕ) (h1 : 1 ≤ c) (h2 : c ≤ 246) : (∑ x : Fin 256, if x.val + 2 ≤ c then 1 else 0) = c - 1 := by
  rw [Fin.sum_univ_eq_sum_range (fun n => if n + 2 ≤ c then 1 else 0) 256, Finset.sum_boole]
  have : (Finset.range 256).filter (fun n => n + 2 ≤ c) = Finset.range (c - 1) := by
    ext n; simp only [Finset.mem_filter, Finset.mem_range]; omega
  rw [this, Finset.card_range]; rfl

theorem refE_eq (a y : EReal) (ha : a * Ideal.ofBits .f32 0x3B124925#32 = y) (hy : 0 ≤ y) (hb : fieldOf y ≤ 246)
    (hz : a = 0 ↔ fieldOf y = 0) : refE a = (((eOf y : ℤ) : ℝ) : EReal) := by
  have hs : ∀ b : BitVec 32, (FloatOps.sitofp .f32 b : Ideal .f32) = ((b.toInt : ℝ) : EReal) := fun _ => rfl
  unfold refE eOf
  rw [ha, hs]
  by_cases h0 : fieldOf y = 0
  · rw [if_pos (hz.mpr h0), if_pos h0]; rfl
  · rw [if_neg (fun h => h0 (hz.mp h)), if_neg h0]
    have hterm : ∀ x : Fin 256,
        BitVec.setWidth 32 (IntOp.andi (IntOp.cmpi .sle (IntOp.subi (BitVec.ofNat 32 x.val) 125#32) 127#32)
        (BitVec.ofBool (decide ((FloatOps.exp2 (FloatOps.sitofp .f32 (IntOp.subi (BitVec.ofNat 32 x.val) 125#32) : Ideal .f32) : Ideal .f32) ≤ y))))
        = BitVec.ofNat 32 (if x.val + 2 ≤ fieldOf y then 1 else 0) := by
      intro x
      have hi := toInt_sub_125 x.val (by omega)
      have he : (FloatOps.exp2 (FloatOps.sitofp .f32 (IntOp.subi (BitVec.ofNat 32 x.val) 125#32) : Ideal .f32) : Ideal .f32) = (((2 : ℝ) ^ ((x.val : ℤ) - 125) : ℝ) : EReal) := by
        refine Eq.trans ?_ (exp2_int _)
        show Ideal.exp2 _ = _
        rw [hs, hi]
      have hc : IntOp.cmpi .sle (IntOp.subi (BitVec.ofNat 32 x.val) 125#32) 127#32 = BitVec.ofBool (decide (x.val ≤ 252)) := by
        show BitVec.ofBool (BitVec.sle _ _) = _
        congr 1
        rw [BitVec.sle, hi]
        have : (127#32).toInt = 127 := by decide
        rw [this]
        exact decide_eq_decide.mpr (by omega)
      rw [hc, he]
      by_cases hx : x.val ≤ 252
      · have ht := thr_mid (x.val + 2) (by omega) (by omega)
        have e : (((x.val + 2 : ℕ) : ℤ) - 127) = (x.val : ℤ) - 125 := by push_cast; ring
        rw [e] at ht
        rw [← ht, decide_eq_true hx]
        have hiff := thr_le_iff y hy (x.val + 2) (by omega)
        by_cases h : x.val + 2 ≤ fieldOf y
        · rw [decide_eq_true (hiff.mpr h), if_pos h]; rfl
        · rw [decide_eq_false (fun h' => h (hiff.mp h')), if_neg h]; rfl
      · rw [decide_eq_false hx, if_neg (by omega)]
        rw [show ∀ b : BitVec 1, IntOp.andi (BitVec.ofBool false) b = 0#1 from by decide]; rfl
    rw [Finset.fold_congr (fun x _ => hterm x), fold_ofNat, count_eq _ (by omega) hb, toInt_sub_125 _ (by omega)]
    congr 2
    omega

/-! ## The ratio is a small nonnegative number -/

theorem abs_nonneg' (x : EReal) : 0 ≤ max x (-x) := by
  rcases le_total 0 x with h | h
  · exact le_max_of_le_left h
  · exact le_max_of_le_right (by simpa using EReal.neg_le_neg_iff.mpr h)

theorem bits_max : Ideal.ofBits .f32 0x7F7F0000#32 = ((((8388608 + 8323072 : ℕ) : ℝ) * (2 : ℝ) ^ (((254 : ℕ) : ℤ) - 150) : ℝ) : EReal) :=
  ieee_norm 0x7F7F0000#32 254 8323072 (by decide) (by decide) (by decide) (by omega) (by omega)

theorem bits_448 : Ideal.ofBits .f32 0x3B124925#32 = ((((8388608 + 1198373 : ℕ) : ℝ) * (2 : ℝ) ^ (((118 : ℕ) : ℤ) - 150) : ℝ) : EReal) :=
  ieee_norm 0x3B124925#32 118 1198373 (by decide) (by decide) (by decide) (by omega) (by omega)

theorem bits_448_nonneg : 0 ≤ Ideal.ofBits .f32 0x3B124925#32 := by
  rw [bits_448]; exact EReal.coe_nonneg.mpr (by positivity)

theorem gmax_nonneg (f : Fin 128 → EReal) : 0 ≤ gmax f :=
  (Finset.le_fold_max _).mpr (Or.inr ⟨0, Finset.mem_univ _, abs_nonneg' _⟩)

theorem ratio_nonneg (f : Fin 128 → EReal) : 0 ≤ ratio f := mul_nonneg (gmax_nonneg f) bits_448_nonneg

theorem bits_one : Ideal.ofBits .f32 0x00800000#32 = thr 1 := by
  unfold thr
  have : BitVec.ofNat 32 (1 * 2 ^ 23) = 0x00800000#32 := by decide
  rw [this]

theorem field_zero (y : EReal) (hy : 0 ≤ y) : fieldOf y = 0 ↔ ¬ thr 1 ≤ y := by
  rw [thr_le_iff y hy 1 (by omega)]; omega

theorem not_thr_one : ¬ thr 1 ≤ (0 : EReal) := by
  rw [thr_mid 1 (by omega) (by omega), not_le]
  exact EReal.coe_pos.mpr (by positivity)

/-- In range, the exponent is zero by the reference's test just when it is by the kernel's. -/
theorem ratio_zero (f : Fin 128 → EReal) (h : InRange f) : gmax f = 0 ↔ fieldOf (ratio f) = 0 := by
  rw [field_zero _ (ratio_nonneg f)]
  constructor
  · intro h0
    unfold ratio
    rw [h0, zero_mul]
    exact not_thr_one
  · intro h1
    exact h.resolve_right fun h2 => h1 (bits_one ▸ h2.2)

theorem ratio_field (f : Fin 128 → EReal) (h : InRange f) : fieldOf (ratio f) ≤ 246 := by
  rcases h with h | ⟨h, -⟩
  · have : fieldOf (ratio f) = 0 := by
      rw [field_zero _ (ratio_nonneg f)]
      unfold ratio
      rw [h, zero_mul]
      exact not_thr_one
    omega
  by_contra hc
  have h1 : thr 247 ≤ ratio f := (thr_le_iff _ (ratio_nonneg f) 247 (by omega)).mpr (by omega)
  have h3 := h1.trans (mul_le_mul_of_nonneg_right h bits_448_nonneg)
  rw [thr_mid 247 (by omega) (by omega), bits_max, bits_448, ← EReal.coe_mul, EReal.coe_le_coe_iff] at h3
  norm_num at h3

theorem refE_gmax (f : Fin 128 → EReal) (h : InRange f) : refE (gmax f) = (((eOf (ratio f) : ℤ) : ℝ) : EReal) :=
  refE_eq _ _ rfl (ratio_nonneg f) (ratio_field f h) (ratio_zero f h)

/-! ## One scale and one code -/

theorem scale_same (v : Vec Ideal S96x128 .bf16) (r : Fin 96) (h : InRange (fun k => v (ix2 r k))) :
    scaleV v (ix2 r 0) = Ideal.exp2 (refE (gmax (fun k => v (ix2 r k)))) := by
  rw [scaleV_eq, kernel_ratio]
  refine (expOf_bits _ (ratio_nonneg _) (ratio_field _ h)).1.trans ?_
  rw [refE_gmax _ h]
  exact (exp2_int _).symm

theorem code_same (v : Vec Ideal S96x128 .bf16) (r : Fin 96) (k : Fin 128) (h : InRange (fun k => v (ix2 r k))) :
    codeV v (ix2 r k) = min (Ideal.ofBits .f32 0x43E00000#32) (max (Ideal.ofBits .f32 0xC3E00000#32)
      (v (ix2 r k) * Ideal.exp2 (0 - refE (gmax (fun k => v (ix2 r k)))))) := by
  rw [codeV_eq, kernel_ratio]
  have e : (0 : EReal) - refE (gmax (fun k => v (ix2 r k))) = (((-eOf (ratio (fun k => v (ix2 r k))) : ℤ) : ℝ) : EReal) := by
    rw [refE_gmax _ h, zero_sub]; push_cast; rfl
  rw [e, exp2_int]
  exact congrArg (fun z : EReal => min (Ideal.ofBits .f32 0x43E00000#32) (max (Ideal.ofBits .f32 0xC3E00000#32) (v (ix2 r k) * z)))
    (expOf_bits _ (ratio_nonneg _) (ratio_field _ h)).2

end Cert.KernelIdeal.Hand
end
-- ==== Proof.MainForm.lean ====
/- The two tiles that every grid point's stage stores, with the accumulators as a fold over the sixteen pairs of groups. -/
module

public import proofs.«01_k».proof.Proof.Stages

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
variable {F : FTy → Type} [FloatOps F]

theorem slices_ab (a b : Fin 2) : S192x256.Slices ![96 * a.val, 128 * b.val] S96x128 := by
  revert a b; decide

/-- Half `a`'s rows and block `b`'s columns of a pair's product. -/
def partV (a b : Fin 2) (m : FVec F S192x256 .f32) : FVec F S96x128 .f32 :=
  extractStridedSlice S96x128 ![96 * a.val, 128 * b.val] m (slices_ab a b)

/-- A pair's product. -/
def mmV (l : Vec F S1x192x256 .fp8e4m3) (w : Vec F S256x256 .fp8e4m3) : FVec F S192x256 .f32 :=
  matmul dot_S192x256_S256x256_S192x256_1_1_0_0_n_n none (shapeCast S192x256 l shapeCasts_S1x192x256_S192x256) w
    (constant S192x256 .f32 0x00000000#32)

/-- What one half of a pair adds to block `b`'s accumulator. -/
def addendV (a b : Fin 2) (m : FVec F S192x256 .f32) (x : Vec F S1x96x128 .f32) (s : Elt F .f32) : FVec F S96x128 .f32 :=
  mulf (mulf (partV a b m) (shapeCast S96x128 x shapeCasts_S1x96x128_S96x128)) (broadcast S96x128 s)

/-- Block `b`'s accumulator after the first `n` pairs. -/
def accV (b : Fin 2) (Lr : Fin 16 → Vec F S1x192x256 .fp8e4m3) (Wr : Fin 16 → Vec F S256x256 .fp8e4m3)
    (Xr : Fin 32 → Vec F S1x96x128 .f32) (sr : Fin 32 → Elt F .f32) : (n : ℕ) → n ≤ 16 → FVec F S96x128 .f32
  | 0, _ => broadcast S96x128 (Scalar.ofBits .f32 0x00000000#32)
  | n + 1, h =>
    addf (addf (accV b Lr Wr Xr sr n (by omega))
      (addendV 0 b (mmV (Lr ⟨n, h⟩) (Wr ⟨n, h⟩)) (Xr ⟨2 * n, by omega⟩) (sr ⟨2 * n, by omega⟩)))
      (addendV 1 b (mmV (Lr ⟨n, h⟩) (Wr ⟨n, h⟩)) (Xr ⟨2 * n + 1, by omega⟩) (sr ⟨2 * n + 1, by omega⟩))

/-- The two blocks of a projection side by side. -/
def projV (Lr : Fin 16 → Vec F S1x192x256 .fp8e4m3) (Wr : Fin 16 → Vec F S256x256 .fp8e4m3)
    (Xr : Fin 32 → Vec F S1x96x128 .f32) (sr : Fin 2 → Fin 32 → Elt F .f32) : FVec F S96x256 .f32 :=
  concatenate S96x256 1 [⟨S96x128, accV 0 Lr Wr Xr (sr 0) 16 (le_refl _)⟩, ⟨S96x128, accV 1 Lr Wr Xr (sr 1) 16 (le_refl _)⟩]
    concatenates_S96x128_S96x128_S96x256_d1

/-- The gated product of two projections. -/
def gateV (g u : FVec F S96x256 .f32) : FVec F S96x256 .bf16 :=
  truncf .bf16 (mulf (mulf g (logistic g)) u) bitsLt_bf16_f32

theorem inb_lr (p : Fin 16) : ∀ d : Fin 3, (![p.val, 0, 0] : Fin 3 → ℕ) d + (![1, 192, 256] : Fin 3 → ℕ) d ≤ S16x192x256.size d := by
  intro d; fin_cases d
  · show p.val + 1 ≤ 16; omega
  · show 0 + 192 ≤ 192; omega
  · show 0 + 256 ≤ 256; omega

theorem inb_xr (g : Fin 32) : ∀ a : Fin 3, (![g.val, 0, 0] : Fin 3 → ℕ) a + (![1, 96, 128] : Fin 3 → ℕ) a ≤ S32x96x128.size a := by
  intro a; fin_cases a
  · show g.val + 1 ≤ 32; omega
  · show 0 + 96 ≤ 96; omega
  · show 0 + 128 ≤ 128; omega

theorem inb_wr (r : Fin 2) (p : Fin 16) : ∀ a : Fin 2, (![256 * r.val, 256 * p.val] : Fin 2 → ℕ) a + (![256, 256] : Fin 2 → ℕ) a ≤ S512x4096.size a := by
  intro a; fin_cases a
  · show 256 * r.val + 256 ≤ 512; omega
  · show 256 * p.val + 256 ≤ 4096; omega

/-- The row of the weight scales that column tile `r`'s block `b` reads. -/
def rowAt (i : grid0.Coords) (r b : Fin 2) : ℕ := k0_off1 i (BitVec.ofNat 32 (256 * r.val)) (BitVec.ofNat 32 b.val) 0

theorem inb_sr (i : grid0.Coords) (r b : Fin 2) (g : Fin 32) : ∀ a : Fin 2, (![rowAt i r b, g.val] : Fin 2 → ℕ) a + S1x1.size a ≤ S112x32.size a := by
  intro a; fin_cases a
  · exact facts.k0_off1_inb i r b 0
  · show g.val + 1 ≤ 32; omega

/-- Pair `p`'s stacked codes, as the stage reads them from its buffer. -/
def lR (m : Memref sig .tc .vmem S16x192x256 .fp8e4m3) (hm : m.IsWhole) (L : Vec F S16x192x256 .fp8e4m3) (p : Fin 16) : Vec F S1x192x256 .fp8e4m3 :=
  View.readAt (Elt F) m.view (Rect.unit (s := S16x192x256) ![p.val, 0, 0] ![1, 192, 256] (inb_lr p)).toLoadRect (hm.unread L)
/-- Group `g`'s broadcast scales. -/
def xR (m : Memref sig .tc .vmem S32x96x128 .f32) (hm : m.IsWhole) (X : Vec F S32x96x128 .f32) (g : Fin 32) : Vec F S1x96x128 .f32 :=
  View.readAt (Elt F) m.view (Rect.unit (s := S32x96x128) ![g.val, 0, 0] ![1, 96, 128] (inb_xr g)).toLoadRect (hm.unread X)
/-- Column tile `r`'s weights of pair `p`. -/
def wR (m : Memref sig .tc .vmem S512x4096 .fp8e4m3) (hm : m.IsWhole) (W : Vec F S512x4096 .fp8e4m3) (r : Fin 2) (p : Fin 16) : Vec F S256x256 .fp8e4m3 :=
  View.readAt (Elt F) m.view (Rect.unit (s := S512x4096) ![256 * r.val, 256 * p.val] ![256, 256] (inb_wr r p)).toLoadRect (hm.unread W)
/-- Group `g`'s weight scale for column tile `r`'s block `b`. -/
def sR (i : grid0.Coords) (m : Memref sig .tc .smem S112x32 .f32) (hm : m.IsWhole) (S : Vec F S112x32 .f32) (r b : Fin 2) (g : Fin 32) : Elt F .f32 :=
  View.readAt (Elt F) m.view (Rect.unit (s := S112x32) ![rowAt i r b, g.val] S1x1.size (inb_sr i r b g)).toLoadRect (hm.unread S)
    (Shape.Idx.first (by show 0 < S1x1.numel; rw [numel1_S1x1]; exact Nat.one_pos))

variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

/-- The tile that column tile `r` stores. -/
def yT (x1 x2 : Vec F S512x4096 .fp8e4m3) (x3 x4 : Vec F S112x32 .f32)
    (L : Vec F S16x192x256 .fp8e4m3) (X : Vec F S32x96x128 .f32) (r : Fin 2) : FVec F S96x256 .bf16 :=
  gateV (projV (lR arg9 harg9 L) (wR arg2 harg2 x1 r) (xR arg10 harg10 X) (sR i arg4 harg4 x3 r))
    (projV (lR arg9 harg9 L) (wR arg3 harg3 x2 r) (xR arg10 harg10 X) (sR i arg5 harg5 x4 r))

/-- The stage's two stores. -/
theorem main_form (x1 x2 : Vec F S512x4096 .fp8e4m3) (x3 x4 : Vec F S112x32 .f32)
    (L : Vec F S16x192x256 .fp8e4m3) (X : Vec F S32x96x128 .f32) :
    (mainRun c i arg1 harg1 arg2 harg2 arg3 harg3 arg4 harg4 arg5 harg5 arg6 harg6 arg7 harg7 arg8 harg8 arg9 harg9 arg10 harg10 x1 x2 x3 x4 L X).1 =
      [(⟨Rect.unit ![0, 256] ![96, 256] inb_S96x512_S96x256_0_256, yT i arg2 harg2 arg3 harg3 arg4 harg4 arg5 harg5 arg9 harg9 arg10 harg10 x1 x2 x3 x4 L X 1⟩ : View.Piece (Elt F) S96x512 .bf16),
       ⟨Rect.unit ![0, 0] ![96, 256] inb_S96x512_S96x256_0_0, yT i arg2 harg2 arg3 harg3 arg4 harg4 arg5 harg5 arg9 harg9 arg10 harg10 x1 x2 x3 x4 L X 0⟩] := by
  sl_kernel_rfl

end Cert.KernelIdeal.Hand
end
-- ==== Proof.Contents.lean ====
/- What the stages leave in the buffers they write, index by index. -/
module

public import proofs.«01_k».proof.Proof.QuantForm
public import proofs.«01_k».proof.Proof.MainForm
public import Idealize.ShloMosaic.Lib.Pipeline.ValueKit.Tiles
public import Idealize.ShloMosaic.Lib.Pipeline.Value
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
variable {F : FTy → Type} [FloatOps F]

theorem mem_unit {S : Shape} (off size : Fin S.rank → ℕ) (inb : ∀ a, off a + size a ≤ S.size a) (y : S.Idx)
    (h : ∀ a, off a ≤ (y a).val ∧ (y a).val < off a + size a) : y ∈ (Rect.unit off size inb).set := Rect.mem_set_unit.mpr h

/-- An index of the activations from a row, a group and a column of the group. -/
def colOf (g : Fin 32) (k : Fin 128) : Fin 4096 := ⟨128 * g.val + k.val, by omega⟩
/-- A stacked row from a half and a row. -/
def rowOf (a : Fin 2) (r : Fin 96) : Fin 192 := ⟨96 * a.val + r.val, by omega⟩
/-- A column of a pair from a half and a column of a group. -/
def kOf (b : Fin 2) (k : Fin 128) : Fin 256 := ⟨128 * b.val + k.val, by omega⟩
/-- A column of the output block from a column tile and a column of it. -/
def nOf (r : Fin 2) (n : Fin 256) : Fin 512 := ⟨256 * r.val + n.val, by omega⟩

theorem tile_apply (x0 : Vec F S96x4096 .bf16) (g : Fin 32) (r : Fin 96) (k : Fin 128) :
    tile x0 g (ix2 r k) = x0 (ix2 r (colOf g k)) := by
  unfold tile
  show x0 _ = x0 _
  congr 1
  funext a; apply Fin.ext
  match a with
  | ⟨0, _⟩ => show 0 + 1 * r.val = r.val; omega
  | ⟨1, _⟩ => show 128 * g.val + 1 * k.val = 128 * g.val + k.val; omega

theorem lR_apply (m : Memref sig .tc .vmem S16x192x256 .fp8e4m3) (hm : m.IsWhole) (L : Vec F S16x192x256 .fp8e4m3) (p : Fin 16) (r : Fin 192) (k : Fin 256) :
    lR m hm L p (ix3 0 r k) = L (ix3 p r k) := by
  unfold lR
  rw [View.readAt_eq_ld, hm.read_unread]
  show L _ = L _
  congr 1
  funext a; apply Fin.ext
  match a with
  | ⟨0, _⟩ => show p.val + 1 * 0 = p.val; omega
  | ⟨1, _⟩ => show 0 + 1 * r.val = r.val; omega
  | ⟨2, _⟩ => show 0 + 1 * k.val = k.val; omega

theorem xR_apply (m : Memref sig .tc .vmem S32x96x128 .f32) (hm : m.IsWhole) (X : Vec F S32x96x128 .f32) (g : Fin 32) (r : Fin 96) (k : Fin 128) :
    xR m hm X g (ix3 0 r k) = X (ix3 g r k) := by
  unfold xR
  rw [View.readAt_eq_ld, hm.read_unread]
  show X _ = X _
  congr 1
  funext a; apply Fin.ext
  match a with
  | ⟨0, _⟩ => show g.val + 1 * 0 = g.val; omega
  | ⟨1, _⟩ => show 0 + 1 * r.val = r.val; omega
  | ⟨2, _⟩ => show 0 + 1 * k.val = k.val; omega

/-- A column of the weights from a pair and a column of the pair. -/
def pairCol (p : Fin 16) (k : Fin 256) : Fin 4096 := ⟨256 * p.val + k.val, by omega⟩

theorem wR_apply (m : Memref sig .tc .vmem S512x4096 .fp8e4m3) (hm : m.IsWhole) (W : Vec F S512x4096 .fp8e4m3) (r : Fin 2) (p : Fin 16) (n k : Fin 256) :
    wR m hm W r p (ix2 n k) = W (ix2 (nOf r n) (pairCol p k)) := by
  unfold wR
  rw [View.readAt_eq_ld, hm.read_unread]
  show W _ = W _
  congr 1
  funext a; apply Fin.ext
  match a with
  | ⟨0, _⟩ => show 256 * r.val + 1 * n.val = 256 * r.val + n.val; omega
  | ⟨1, _⟩ => show 256 * p.val + 1 * k.val = 256 * p.val + k.val; omega

theorem rowAt_lt (i : grid0.Coords) (r b : Fin 2) : rowAt i r b < 112 := by
  have h := facts.k0_off1_inb i r b 0
  have h' : rowAt i r b + 1 ≤ 112 := h
  omega

theorem sR_apply (i : grid0.Coords) (m : Memref sig .tc .smem S112x32 .f32) (hm : m.IsWhole) (S : Vec F S112x32 .f32) (r b : Fin 2) (g : Fin 32) :
    sR i m hm S r b g = S (ix2 ⟨rowAt i r b, rowAt_lt i r b⟩ g) := by
  unfold sR
  rw [View.readAt_eq_ld, hm.read_unread]
  show S _ = S _
  congr 1
  have h1 : ∀ x : (⟨2, ![1, 1]⟩ : Shape).Idx, ((x 0 : Fin 1).val = 0) ∧ ((x 1 : Fin 1).val = 0) := fun x =>
    ⟨by have := (x 0).isLt; change (x 0).val < 1 at this; omega, by have := (x 1).isLt; change (x 1).val < 1 at this; omega⟩
  generalize hx : (Shape.Idx.first (s := (Rect.unit (s := S112x32) ![rowAt i r b, g.val] S1x1.size (inb_sr i r b g)).shape) _) = x
  have h2 := h1 x
  funext a; apply Fin.ext
  match a with
  | ⟨0, _⟩ => show rowAt i r b + 1 * (x 0).val = rowAt i r b; have := h2.1; change (x 0).val = 0 at this; omega
  | ⟨1, _⟩ => show g.val + 1 * (x 1).val = g.val; have := h2.2; change (x 1).val = 0 at this; omega

theorem lhs_tileAt (T : Fin 32 → Vec F S96x128 .bf16) (p q : Fin 16) (a b a' b' : Fin 2) (r : Fin 96) (k : Fin 128) :
    View.RectAt (Val := Elt F) (S := S16x192x256) (e := .fp8e4m3) (ix3 p (rowOf a r) (kOf b k))
      (Rect.unit ![q.val, 96 * a'.val, 128 * b'.val] ![1, 96, 128] (inb_lhs q a' b')) (lhsT T q a' b')
      (lhsT T p a b (ix3 0 r k)) := by
  intro x hx
  have e0 : q.val + 1 * (x 0).val = p.val := congrArg Fin.val (congrFun hx 0)
  have e1 : 96 * a'.val + 1 * (x 1).val = 96 * a.val + r.val := congrArg Fin.val (congrFun hx 1)
  have e2 : 128 * b'.val + 1 * (x 2).val = 128 * b.val + k.val := congrArg Fin.val (congrFun hx 2)
  have l0 : (x 0).val < 1 := (x 0).isLt
  have l1 : (x 1).val < 96 := (x 1).isLt
  have l2 : (x 2).val < 128 := (x 2).isLt
  obtain rfl : q = p := Fin.ext (by omega)
  obtain rfl : a' = a := Fin.ext (by omega)
  obtain rfl : b' = b := Fin.ext (by omega)
  have hxx : x = ix3 0 r k := by
    funext d; apply Fin.ext
    match d with
    | ⟨0, _⟩ => show (x 0).val = 0; omega
    | ⟨1, _⟩ => show (x 1).val = r.val; omega
    | ⟨2, _⟩ => show (x 2).val = k.val; omega
  rw [hxx]

/-- The scales after the first `n` groups, lane by lane. -/
theorem scalesAcc_apply (T : Fin 32 → Vec F S96x128 .bf16) (r : Fin 96) (g : Fin 32) : ∀ (n : ℕ) (h : n ≤ 32), g.val < n →
    scalesAcc T n h (ix2 r g) = scaleV (T g) (ix2 r 0)
  | 0, _, hg => absurd hg (Nat.not_lt_zero _)
  | n + 1, h, hg => by
    unfold scalesAcc putScale
    by_cases e : g.val = n
    · obtain rfl : g = ⟨n, h⟩ := Fin.ext e
      pointwise
    · have ih := scalesAcc_apply T r g n (by omega) (by omega)
      pointwise
      have hc : IntOp.cmpi .eq (BitVec.ofNat 32 g.val) (BitVec.ofNat 32 n) = 0#1 := by
        have : ¬ BitVec.ofNat 32 g.val = BitVec.ofNat 32 n := by
          intro h'
          have := congrArg BitVec.toNat h'
          simp only [BitVec.toNat_ofNat] at this
          omega
        show BitVec.ofBool (_ == _) = 0#1
        rw [beq_eq_false_iff_ne.mpr this]; rfl
      rw [hc]
      exact ih

variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

theorem codesOut_apply (x0 : Vec F S96x4096 .bf16) (r : Fin 96) (g : Fin 32) (k : Fin 128) :
    codesOut c i arg1 harg1 arg2 harg2 arg3 harg3 arg4 harg4 arg5 harg5 arg6 harg6 arg7 harg7 arg8 harg8 arg9 harg9 arg10 harg10 x0 (ix2 r (colOf g k)) = codeV (tile x0 g) (ix2 r k) := by
  unfold codesOut
  rw [codes_form]
  refine View.canon_ofFn_unit_eq_of_forall (Val := Elt F) (S := S96x4096) (e := .fp8e4m3) (fun k : Fin 32 => ![0, 128 * k.rev.val]) ![96, 128] (fun k => inb_tile k.rev)
    (fun k => codeV (tileR arg1 harg1 x0 k.rev)) _ _ ⟨g.rev, ?_⟩ ?_
  · intro a
    rw [Fin.rev_rev]
    match a with
    | ⟨0, _⟩ => exact ⟨Nat.zero_le _, by show r.val < 0 + 96; omega⟩
    | ⟨1, _⟩ => exact ⟨by show 128 * g.val ≤ 128 * g.val + k.val; omega, by show 128 * g.val + k.val < 128 * g.val + 128; omega⟩
  · intro q x hx
    have e0 : r.val = 0 + (x 0).val := hx 0
    have e1 : 128 * g.val + k.val = 128 * q.rev.val + (x 1).val := hx 1
    have l1 : (x 1).val < 128 := (x 1).isLt
    have hq : q.rev = g := Fin.ext (by omega)
    have hxx : x = ix2 r k := by
      funext d; apply Fin.ext
      match d with
      | ⟨0, _⟩ => show (x 0).val = r.val; omega
      | ⟨1, _⟩ => show (x 1).val = k.val; have := congrArg Fin.val hq; omega
    show codeV (tileR arg1 harg1 x0 q.rev) x = _
    rw [hq, hxx, tileR_eq]

theorem xsOut_apply (x0 : Vec F S96x4096 .bf16) (r : Fin 96) (g : Fin 32) (k : Fin 128) :
    xsOut c i arg1 harg1 arg2 harg2 arg3 harg3 arg4 harg4 arg5 harg5 arg6 harg6 arg7 harg7 arg8 harg8 arg9 harg9 arg10 harg10 x0 (ix3 g r k) = k0_pay14 (scaleV (tile x0 g)) (ix3 0 r k) := by
  unfold xsOut
  rw [xs_form]
  refine View.canon_ofFn_unit_eq_of_forall (Val := Elt F) (S := S32x96x128) (e := .f32) (fun k : Fin 32 => ![k.rev.val, 0, 0]) ![1, 96, 128] (fun k => inb_xs k.rev)
    (fun k => k0_pay14 (scaleV (tileR arg1 harg1 x0 k.rev))) _ _ ⟨g.rev, ?_⟩ ?_
  · intro a
    rw [Fin.rev_rev]
    match a with
    | ⟨0, _⟩ => exact ⟨le_refl _, by show g.val < g.val + 1; omega⟩
    | ⟨1, _⟩ => exact ⟨Nat.zero_le _, by show r.val < 0 + 96; omega⟩
    | ⟨2, _⟩ => exact ⟨Nat.zero_le _, by show k.val < 0 + 128; omega⟩
  · intro q x hx
    have e0 : g.val = q.rev.val + (x 0).val := hx 0
    have e1 : r.val = 0 + (x 1).val := hx 1
    have e2 : k.val = 0 + (x 2).val := hx 2
    have l0 : (x 0).val < 1 := (x 0).isLt
    have hq : q.rev = g := Fin.ext (by omega)
    have hxx : x = ix3 0 r k := by
      funext d; apply Fin.ext
      match d with
      | ⟨0, _⟩ => show (x 0).val = 0; omega
      | ⟨1, _⟩ => show (x 1).val = r.val; omega
      | ⟨2, _⟩ => show (x 2).val = k.val; omega
    show k0_pay14 (scaleV (tileR arg1 harg1 x0 q.rev)) x = _
    rw [hq, hxx, tileR_eq]

theorem lhsOut_apply (x0 : Vec F S96x4096 .bf16) (p : Fin 16) (a b : Fin 2) (r : Fin 96) (k : Fin 128) :
    lhsOut c i arg1 harg1 arg2 harg2 arg3 harg3 arg4 harg4 arg5 harg5 arg6 harg6 arg7 harg7 arg8 harg8 arg9 harg9 arg10 harg10 x0 (ix3 p (rowOf a r) (kOf b k)) = lhsT (tile x0) p a b (ix3 0 r k) := by
  have hT : tileR arg1 harg1 x0 = tile x0 := funext (tileR_eq arg1 harg1 x0)
  unfold lhsOut
  rw [lhs_form, hT]
  have mem : ∀ q : Fin 16, ∀ w ∈ lhsPieces (tile x0) q, w ∈ (List.ofFn fun p : Fin 16 => lhsPieces (tile x0) p.rev).flatten := fun q w hw =>
    List.mem_flatten.mpr ⟨lhsPieces (tile x0) q, (List.mem_ofFn).mpr ⟨q.rev, by rw [Fin.rev_rev]⟩, hw⟩
  refine View.canon_eq_of_allAt _ _ _ ?_ ?_
  · have hm : (⟨Rect.unit ![p.val, 96 * a.val, 128 * b.val] ![1, 96, 128] (inb_lhs p a b), lhsT (tile x0) p a b⟩ : View.Piece (Elt F) S16x192x256 .fp8e4m3) ∈ lhsPieces (tile x0) p := by
      unfold lhsPieces
      match a, b with
      | 0, 0 => simp
      | 0, 1 => simp
      | 1, 0 => simp
      | 1, 1 => simp
    refine ⟨_, mem p _ hm, mem_unit _ _ (inb_lhs p a b) _ ?_⟩
    intro d
    match d with
    | ⟨0, _⟩ => exact ⟨le_refl _, by show p.val < p.val + 1; omega⟩
    | ⟨1, _⟩ => exact ⟨by show 96 * a.val ≤ 96 * a.val + r.val; omega, by show 96 * a.val + r.val < 96 * a.val + 96; omega⟩
    | ⟨2, _⟩ => exact ⟨by show 128 * b.val ≤ 128 * b.val + k.val; omega, by show 128 * b.val + k.val < 128 * b.val + 128; omega⟩
  · intro w hw
    obtain ⟨l, hl, hw⟩ := List.mem_flatten.mp hw
    obtain ⟨q, rfl⟩ := (List.mem_ofFn).mp hl
    unfold lhsPieces at hw
    simp only [List.mem_cons, List.not_mem_nil, or_false] at hw
    rcases hw with rfl | rfl | rfl | rfl
    · exact lhs_tileAt (tile x0) p q.rev a b 1 0 r k
    · exact lhs_tileAt (tile x0) p q.rev a b 1 1 r k
    · exact lhs_tileAt (tile x0) p q.rev a b 0 1 r k
    · exact lhs_tileAt (tile x0) p q.rev a b 0 0 r k

theorem scalesOut_apply (x0 : Vec F S96x4096 .bf16) (r : Fin 96) (g : Fin 32) :
    scalesOut c i arg1 harg1 arg2 harg2 arg3 harg3 arg4 harg4 arg5 harg5 arg6 harg6 arg7 harg7 arg8 harg8 arg9 harg9 arg10 harg10 x0 (ix2 r g) = scaleV (tile x0 g) (ix2 r 0) := by
  have hT : tileR arg1 harg1 x0 = tile x0 := funext (tileR_eq arg1 harg1 x0)
  unfold scalesOut
  rw [scales_form, hT]
  rw [View.canon_unit_zero (by funext a; match a with | ⟨0, _⟩ => rfl | ⟨1, _⟩ => rfl)]
  exact scalesAcc_apply (tile x0) r g 32 (le_refl _) g.isLt

theorem mainOut_apply (x1 x2 : Vec F S512x4096 .fp8e4m3) (x3 x4 : Vec F S112x32 .f32)
    (L : Vec F S16x192x256 .fp8e4m3) (X : Vec F S32x96x128 .f32) (q : Fin 96) (r : Fin 2) (n : Fin 256) :
    mainOut c i arg1 harg1 arg2 harg2 arg3 harg3 arg4 harg4 arg5 harg5 arg6 harg6 arg7 harg7 arg8 harg8 arg9 harg9 arg10 harg10 x1 x2 x3 x4 L X (ix2 q (nOf r n)) = yT i arg2 harg2 arg3 harg3 arg4 harg4 arg5 harg5 arg9 harg9 arg10 harg10 x1 x2 x3 x4 L X r (ix2 q n) := by
  unfold mainOut
  rw [main_form]
  have key : ∀ (r' : Fin 2) (off : ℕ) (inb) (ho : off = 256 * r'.val), View.RectAt (Val := Elt F) (S := S96x512) (e := .bf16) (ix2 q (nOf r n))
      (Rect.unit ![0, off] ![96, 256] inb) (yT i arg2 harg2 arg3 harg3 arg4 harg4 arg5 harg5 arg9 harg9 arg10 harg10 x1 x2 x3 x4 L X r')
      (yT i arg2 harg2 arg3 harg3 arg4 harg4 arg5 harg5 arg9 harg9 arg10 harg10 x1 x2 x3 x4 L X r (ix2 q n)) := by
    intro r' off inb ho x hx
    have e0 : 0 + 1 * (x 0).val = q.val := congrArg Fin.val (congrFun hx 0)
    have e1 : off + 1 * (x 1).val = 256 * r.val + n.val := congrArg Fin.val (congrFun hx 1)
    have l1 : (x 1).val < 256 := (x 1).isLt
    obtain rfl : r' = r := Fin.ext (by omega)
    have hxx : x = ix2 q n := by
      funext d; apply Fin.ext
      match d with
      | ⟨0, _⟩ => show (x 0).val = q.val; omega
      | ⟨1, _⟩ => show (x 1).val = n.val; omega
    rw [hxx]
  refine View.canon_eq_of_allAt _ _ _ ?_ ?_
  · match r with
    | 0 =>
      refine ⟨_, List.mem_cons_of_mem _ List.mem_cons_self, mem_unit _ _ inb_S96x512_S96x256_0_0 _ ?_⟩
      intro d
      match d with
      | ⟨0, _⟩ => exact ⟨Nat.zero_le _, by show q.val < 0 + 96; omega⟩
      | ⟨1, _⟩ => exact ⟨Nat.zero_le _, by show 256 * 0 + n.val < 0 + 256; omega⟩
    | 1 =>
      refine ⟨_, List.mem_cons_self, mem_unit _ _ inb_S96x512_S96x256_0_256 _ ?_⟩
      intro d
      match d with
      | ⟨0, _⟩ => exact ⟨Nat.zero_le _, by show q.val < 0 + 96; omega⟩
      | ⟨1, _⟩ => exact ⟨by show 256 ≤ 256 * 1 + n.val; omega, by show 256 * 1 + n.val < 256 + 256; omega⟩
  · intro w hw
    rcases List.mem_cons.mp hw with rfl | hw
    · exact key 1 256 inb_S96x512_S96x256_0_256 rfl
    · rcases List.mem_singleton.mp hw with rfl
      exact key 0 0 inb_S96x512_S96x256_0_0 rfl

end Cert.KernelIdeal.Hand
end
-- ==== Proof.Proj.lean ====
/- The projections on the reals: the kernel's accumulators are the reference's sums over the groups. -/
module
public import proofs.«01_k».proof.Proof.Contents
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen

theorem fin_two : ∀ a : Fin 2, a = 0 ∨ a = 1 := by decide

theorem mmV_apply (l : Vec Ideal S1x192x256 .fp8e4m3) (w : Vec Ideal S256x256 .fp8e4m3) (i : Fin 192) (n : Fin 256) :
    mmV l w (ix2 i n) = ∑ k : Fin 256, (l (ix3 0 i k) : EReal) * (w (ix2 n k) : EReal) := by
  unfold mmV
  pointwise

theorem partV_apply (a b : Fin 2) (m : FVec Ideal S192x256 .f32) (r : Fin 96) (n : Fin 128) :
    partV a b m (ix2 r n) = m (ix2 (rowOf a r) (kOf b n)) := by
  unfold partV
  show m _ = m _
  congr 1
  funext d; apply Fin.ext
  match d with
  | ⟨0, _⟩ => rfl
  | ⟨1, _⟩ => rfl

theorem addendV_apply (a b : Fin 2) (m : FVec Ideal S192x256 .f32) (x : Vec Ideal S1x96x128 .f32) (s : Elt Ideal .f32) (r : Fin 96) (n : Fin 128) :
    addendV a b m x s (ix2 r n) = (m (ix2 (rowOf a r) (kOf b n)) : EReal) * (x (ix3 0 r n) : EReal) * (s : EReal) := by
  unfold addendV
  pointwise
  rw [partV_apply]

theorem sum_pairs {M : Type*} [AddCommMonoid M] (f : ℕ → M) (n : ℕ) :
    ∑ g ∈ Finset.range (2 * (n + 1)), f g = (∑ g ∈ Finset.range (2 * n), f g) + f (2 * n) + f (2 * n + 1) := by
  rw [show 2 * (n + 1) = 2 * n + 1 + 1 by ring, Finset.sum_range_succ, Finset.sum_range_succ]

theorem accV_apply (b : Fin 2) (Lr : Fin 16 → Vec Ideal S1x192x256 .fp8e4m3) (Wr : Fin 16 → Vec Ideal S256x256 .fp8e4m3)
    (Xr : Fin 32 → Vec Ideal S1x96x128 .f32) (sr : Fin 32 → Elt Ideal .f32) (r : Fin 96) (j : Fin 128) (t : ℕ → EReal)
    (ht : ∀ (p : Fin 16) (a : Fin 2), addendV a b (mmV (Lr p) (Wr p)) (Xr ⟨2 * p.val + a.val, by omega⟩) (sr ⟨2 * p.val + a.val, by omega⟩) (ix2 r j)
      = t (2 * p.val + a.val)) :
    ∀ (n : ℕ) (h : n ≤ 16), accV b Lr Wr Xr sr n h (ix2 r j) = ∑ g ∈ Finset.range (2 * n), t g
  | 0, _ => by
    unfold accV
    pointwise
    rfl
  | n + 1, h => by
    have ih := accV_apply b Lr Wr Xr sr r j t ht n (by omega)
    have h0 := ht ⟨n, h⟩ 0
    have h1 := ht ⟨n, h⟩ 1
    rw [sum_pairs, ← ih]
    exact congrArg₂ (fun x y : EReal => (accV b Lr Wr Xr sr n (by omega) (ix2 r j) : EReal) + x + y) h0 h1

/-- A pair's product of a stacked row: only the half that holds the row's own group counts. -/
theorem mm_half (T : Fin 32 → Vec Ideal S96x128 .bf16) (l : Vec Ideal S1x192x256 .fp8e4m3) (w : Fin 256 → EReal) (p : Fin 16) (a : Fin 2) (r : Fin 96)
    (hl : ∀ (b : Fin 2) (k : Fin 128), l (ix3 0 (rowOf a r) (kOf b k)) = lhsT T p a b (ix3 0 r k)) :
    (∑ k : Fin 256, (l (ix3 0 (rowOf a r) k) : EReal) * w k)
      = ∑ k : Fin 128, (codeV (T ⟨2 * p.val + a.val, by omega⟩) (ix2 r k) : EReal) * w (kOf a k) := by
  have hsplit : (∑ k : Fin 256, (l (ix3 0 (rowOf a r) k) : EReal) * w k)
      = (∑ k : Fin 128, (l (ix3 0 (rowOf a r) (kOf 0 k)) : EReal) * w (kOf 0 k)) + ∑ k : Fin 128, (l (ix3 0 (rowOf a r) (kOf 1 k)) : EReal) * w (kOf 1 k) := by
    have h0 : ∀ k : Fin 128, Fin.castAdd 128 k = kOf 0 k := fun k => Fin.ext (by show k.val = 128 * 0 + k.val; omega)
    have h1 : ∀ k : Fin 128, Fin.natAdd 128 k = kOf 1 k := fun k => Fin.ext (by show 128 + k.val = 128 * 1 + k.val; omega)
    refine (Fin.sum_univ_add (a := 128) (b := 128) (fun k : Fin 256 => (l (ix3 0 (rowOf a r) k) : EReal) * w k)).trans ?_
    simp only [h0, h1]
  have hown : ∀ k : Fin 128, lhsT T p a a (ix3 0 r k) = codeV (T ⟨2 * p.val + a.val, by omega⟩) (ix2 r k) := by
    intro k
    unfold lhsT
    rw [if_pos rfl]
    generalize codeV (T ⟨2 * p.val + a.val, by omega⟩) = v
    pointwise
  have hoff : ∀ (b : Fin 2) (k : Fin 128), a ≠ b → (lhsT T p a b (ix3 0 r k) : EReal) = 0 := by
    intro b k hab
    unfold lhsT
    rw [if_neg (fun h => hab (Fin.ext h))]
    unfold zeroT k0_pay16 k0_pay3
    pointwise
    exact Ideal.ofBits_zero .fp8e4m3
  rw [hsplit]
  simp only [hl]
  obtain rfl | rfl := fin_two a
  · simp only [hown, hoff 1 _ (by decide), zero_mul, Finset.sum_const_zero, add_zero]
  · simp only [hown, hoff 0 _ (by decide), zero_mul, Finset.sum_const_zero, zero_add]

/-- A block's accumulator is the sum over the groups. -/
theorem acc_groups (T : Fin 32 → Vec Ideal S96x128 .bf16) (b : Fin 2) (Lr : Fin 16 → Vec Ideal S1x192x256 .fp8e4m3)
    (Wr : Fin 16 → Vec Ideal S256x256 .fp8e4m3) (Xr : Fin 32 → Vec Ideal S1x96x128 .f32) (sr : Fin 32 → Elt Ideal .f32)
    (q : Fin 96) (j : Fin 128) (W : Fin 32 → Fin 128 → EReal) (X : Fin 32 → EReal)
    (hL : ∀ (p : Fin 16) (a b : Fin 2) (k : Fin 128), Lr p (ix3 0 (rowOf a q) (kOf b k)) = lhsT T p a b (ix3 0 q k))
    (hW : ∀ (p : Fin 16) (a : Fin 2) (k : Fin 128), Wr p (ix2 (kOf b j) (kOf a k)) = W ⟨2 * p.val + a.val, by omega⟩ k)
    (hX : ∀ g : Fin 32, Xr g (ix3 0 q j) = X g) :
    accV b Lr Wr Xr sr 16 (le_refl _) (ix2 q j)
      = ∑ g : Fin 32, (∑ k : Fin 128, (codeV (T g) (ix2 q k) : EReal) * W g k) * X g * (sr g : EReal) := by
  have h := accV_apply b Lr Wr Xr sr q j
    (fun n => if h : n < 32 then (∑ k : Fin 128, (codeV (T ⟨n, h⟩) (ix2 q k) : EReal) * W ⟨n, h⟩ k) * X ⟨n, h⟩ * (sr ⟨n, h⟩ : EReal) else 0)
    (fun p a => by
      rw [dif_pos (show 2 * p.val + a.val < 32 by omega), addendV_apply, mmV_apply, mm_half T (Lr p) (fun k => Wr p (ix2 (kOf b j) k)) p a q (hL p a)]
      simp only [hW, hX]) 16 (le_refl _)
  rw [h, Finset.sum_range]
  exact Finset.sum_congr rfl fun g _ => dif_pos g.isLt

theorem projV_apply (Lr : Fin 16 → Vec Ideal S1x192x256 .fp8e4m3) (Wr : Fin 16 → Vec Ideal S256x256 .fp8e4m3)
    (Xr : Fin 32 → Vec Ideal S1x96x128 .f32) (sr : Fin 2 → Fin 32 → Elt Ideal .f32) (q : Fin 96) (b : Fin 2) (j : Fin 128) :
    projV Lr Wr Xr sr (ix2 q (kOf b j)) = accV b Lr Wr Xr (sr b) 16 (le_refl _) (ix2 q j) := by
  unfold projV
  obtain rfl | rfl := fin_two b
  · pointwise
    rw [dif_pos (show (kOf 0 j).val < 128 by simp [kOf])]
    exact congrArg (fun z => accV 0 Lr Wr Xr (sr 0) 16 (le_refl _) (ix2 q z)) (Fin.ext (by simp [kOf]))
  · pointwise
    rw [dif_neg (show ¬ (kOf 1 j).val < 128 by simp [kOf])]
    exact congrArg (fun z => accV 1 Lr Wr Xr (sr 1) 16 (le_refl _) (ix2 q z)) (Fin.ext (by simp [kOf]))

theorem gateV_apply (g u : FVec Ideal S96x256 .f32) (q : Fin 96) (n : Fin 256) :
    gateV g u (ix2 q n) = (g (ix2 q n) : EReal) * Ideal.logistic (g (ix2 q n)) * (u (ix2 q n) : EReal) := by
  unfold gateV
  pointwise

end Cert.KernelIdeal.Hand
end
-- ==== Proof.Tiles.lean ====
/- The output block of a grid point over the extended reals: the two block-scaled products and the gate. -/
module

public import proofs.«01_k».proof.Proof.Proj

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
open scoped BigOperators

/-- The scale of the row, copied along the lanes. -/
theorem pay14_apply (v : FVec Ideal S96x1 .f32) (r : Fin 96) (k : Fin 128) : k0_pay14 v (ix3 0 r k) = v (ix2 r 0) := by
  unfold k0_pay14
  pointwise

/-- The row of the scales that a block of 128 columns reads. -/
theorem rowAt_val : ∀ (t : Fin grid0.N) (r b : Fin 2), rowAt (grid0.coords t) r b = 4 * t.val + 2 * r.val + b.val := by
  decide +kernel

/-- One block-scaled product: the group products, each times the two scales of its group, summed over the groups. -/
def dotS (C : Fin 32 → Fin 128 → EReal) (W : Fin 32 → Fin 128 → EReal) (X S : Fin 32 → EReal) : EReal :=
  ∑ g : Fin 32, (∑ k : Fin 128, C g k * W g k) * X g * S g

theorem proj_value (T : Fin 32 → Vec Ideal S96x128 .bf16) (i : grid0.Coords)
    (mw : Memref sig .tc .vmem S512x4096 .fp8e4m3) (hmw : mw.IsWhole) (ms : Memref sig .tc .smem S112x32 .f32) (hms : ms.IsWhole)
    (ml : Memref sig .tc .vmem S16x192x256 .fp8e4m3) (hml : ml.IsWhole) (mx : Memref sig .tc .vmem S32x96x128 .f32) (hmx : mx.IsWhole)
    (W : Vec Ideal S512x4096 .fp8e4m3) (S : Vec Ideal S112x32 .f32)
    (L : Vec Ideal S16x192x256 .fp8e4m3) (X : Vec Ideal S32x96x128 .f32)
    (hL : ∀ p a b r k, L (ix3 p (rowOf a r) (kOf b k)) = lhsT T p a b (ix3 0 r k))
    (hX : ∀ g r k, X (ix3 g r k) = scaleV (T g) (ix2 r 0))
    (q : Fin 96) (r b : Fin 2) (j : Fin 128) :
    projV (lR ml hml L) (wR mw hmw W r) (xR mx hmx X) (sR i ms hms S r) (ix2 q (kOf b j))
      = dotS (fun g k => codeV (T g) (ix2 q k)) (fun g k => W (ix2 (nOf r (kOf b j)) (colOf g k)))
          (fun g => scaleV (T g) (ix2 q 0)) (fun g => S (ix2 ⟨rowAt i r b, rowAt_lt i r b⟩ g)) := by
  rw [projV_apply]
  rw [acc_groups T b _ _ _ _ q j (fun g k => W (ix2 (nOf r (kOf b j)) (colOf g k))) (fun g => scaleV (T g) (ix2 q 0))
    (fun p a b' k => by rw [lR_apply]; exact hL p a b' q k)
    (fun p a k => by
      rw [wR_apply]
      exact congrArg (fun z => W (ix2 (nOf r (kOf b j)) z)) (Fin.ext (by show 256 * p.val + (128 * a.val + k.val) = 128 * (2 * p.val + a.val) + k.val; omega)))
    (fun g => by rw [xR_apply]; exact hX g q j)]
  unfold dotS
  exact Finset.sum_congr rfl fun g _ => congrArg _ (sR_apply i ms hms S r b g)

variable (c : Dev nD) (i : grid0.Coords) (arg1 : Memref sig .tc .vmem S96x4096 .bf16) (harg1 : arg1.IsWhole) (arg2 : Memref sig .tc .vmem S512x4096 .fp8e4m3) (harg2 : arg2.IsWhole) (arg3 : Memref sig .tc .vmem S512x4096 .fp8e4m3) (harg3 : arg3.IsWhole) (arg4 : Memref sig .tc .smem S112x32 .f32) (harg4 : arg4.IsWhole) (arg5 : Memref sig .tc .smem S112x32 .f32) (harg5 : arg5.IsWhole) (arg6 : Memref sig .tc .vmem S96x512 .bf16) (harg6 : arg6.IsWhole) (arg7 : Memref sig .tc .vmem S96x4096 .fp8e4m3) (harg7 : arg7.IsWhole) (arg8 : Memref sig .tc .vmem S96x32 .f32) (harg8 : arg8.IsWhole) (arg9 : Memref sig .tc .vmem S16x192x256 .fp8e4m3) (harg9 : arg9.IsWhole) (arg10 : Memref sig .tc .vmem S32x96x128 .f32) (harg10 : arg10.IsWhole)

/-- The gate: silu of the first product times the second. -/
def glu (a b : EReal) : EReal := a * Ideal.logistic a * b

theorem main_value (T : Fin 32 → Vec Ideal S96x128 .bf16)
    (x1 x2 : Vec Ideal S512x4096 .fp8e4m3) (x3 x4 : Vec Ideal S112x32 .f32)
    (L : Vec Ideal S16x192x256 .fp8e4m3) (X : Vec Ideal S32x96x128 .f32)
    (hL : ∀ p a b r k, L (ix3 p (rowOf a r) (kOf b k)) = lhsT T p a b (ix3 0 r k))
    (hX : ∀ g r k, X (ix3 g r k) = scaleV (T g) (ix2 r 0))
    (q : Fin 96) (r b : Fin 2) (j : Fin 128) :
    mainOut c i arg1 harg1 arg2 harg2 arg3 harg3 arg4 harg4 arg5 harg5 arg6 harg6 arg7 harg7 arg8 harg8 arg9 harg9 arg10 harg10 x1 x2 x3 x4 L X (ix2 q (nOf r (kOf b j)))
      = glu (dotS (fun g k => codeV (T g) (ix2 q k)) (fun g k => x1 (ix2 (nOf r (kOf b j)) (colOf g k)))
          (fun g => scaleV (T g) (ix2 q 0)) (fun g => x3 (ix2 ⟨rowAt i r b, rowAt_lt i r b⟩ g)))
          (dotS (fun g k => codeV (T g) (ix2 q k)) (fun g k => x2 (ix2 (nOf r (kOf b j)) (colOf g k)))
          (fun g => scaleV (T g) (ix2 q 0)) (fun g => x4 (ix2 ⟨rowAt i r b, rowAt_lt i r b⟩ g))) := by
  rw [mainOut_apply]
  unfold yT
  rw [gateV_apply, proj_value T i arg2 harg2 arg4 harg4 arg9 harg9 arg10 harg10 x1 x3 L X hL hX q r b j,
    proj_value T i arg3 harg3 arg5 harg5 arg9 harg9 arg10 harg10 x2 x4 L X hL hX q r b j]
  rfl

end Cert.KernelIdeal.Hand
end
-- ==== Proof.Ref.lean ====
/- The reference's three results, index by index. -/
module

public import proofs.«01_k».proof.Proof.Quant
public import proofs.«01_k».proof.Proof.Tiles

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
open scoped BigOperators

/-- A group's scale, -/
def scaleOf (f : Fin 128 → EReal) : EReal := Ideal.exp2 (refE (gmax f))
/-- and its codes. -/
def codeOf (f : Fin 128 → EReal) (k : Fin 128) : EReal :=
  min (Ideal.ofBits .f32 0x43E00000#32) (max (Ideal.ofBits .f32 0xC3E00000#32) (f k * Ideal.exp2 (0 - refE (gmax f))))

section
variable (a0 : Vec Ideal Cert.ReferenceIdeal.S96x1x4096 .bf16) (a1 : Vec Ideal Cert.ReferenceIdeal.S14336x4096 .fp8e4m3)
  (a2 : Vec Ideal Cert.ReferenceIdeal.S112x32 .f32) (a3 : Vec Ideal Cert.ReferenceIdeal.S14336x4096 .fp8e4m3) (a4 : Vec Ideal Cert.ReferenceIdeal.S112x32 .f32)

/-- Group `g` of row `r` of the activations. -/
def grp (r : Fin 96) (g : Fin 32) (k : Fin 128) : EReal := a0 (ix3 r 0 (rCol g k))

theorem ref_pay8 (r : Fin 96) (g : Fin 32) (k : Fin 128) :
    Cert.ReferenceIdeal.Gen.k0_pay8 (F := Ideal) a0 a1 a2 a3 a4 (ix3 r g k) = codeOf (grp a0 r g) k := by
  unfold Cert.ReferenceIdeal.Gen.k0_pay8
  rw [View.ld_unit_zero Cert.ReferenceIdeal.Value.hz0]
  exact ref_code a0 r g k

theorem ref_pay9 (r : Fin 96) (g : Fin 32) :
    Cert.ReferenceIdeal.Gen.k0_pay9 (F := Ideal) a0 a1 a2 a3 a4 (ix2 r g) = scaleOf (grp a0 r g) := by
  unfold Cert.ReferenceIdeal.Gen.k0_pay9
  rw [View.ld_unit_zero Cert.ReferenceIdeal.Value.hz0]
  exact ref_scale a0 r g

theorem ref_codes (r : Fin 96) (g : Fin 32) (k : Fin 128) :
    Cert.ReferenceIdeal.Value.G6 (F := Ideal) a0 a1 a2 a3 a4 (ix3 r 0 (rCol g k)) = codeOf (grp a0 r g) k := by
  rw [← ref_pay8 a0 a1 a2 a3 a4]
  unfold Cert.ReferenceIdeal.Value.G6 Cert.ReferenceIdeal.Gen.k0_pay6
  exact shapeCast_apply _ _ (ix3 r 0 (rCol g k)) (ix3 r g k) (by
    rw [Shape.rowMajor_val_three, Shape.rowMajor_val_three]
    show (r.val * 32 + g.val) * 128 + k.val = (r.val * 1 + 0) * 4096 + (g.val * 128 + k.val); omega)

theorem ref_scales (r : Fin 96) (g : Fin 32) :
    Cert.ReferenceIdeal.Value.G7 (F := Ideal) a0 a1 a2 a3 a4 (ix3 r 0 g) = scaleOf (grp a0 r g) := by
  rw [← ref_pay9 a0 a1 a2 a3 a4]
  unfold Cert.ReferenceIdeal.Value.G7 Cert.ReferenceIdeal.Gen.k0_pay7
  exact shapeCast_apply _ _ (ix3 r 0 g) (ix2 r g) (by
    rw [Shape.rowMajor_val_two, Shape.rowMajor_val_three]
    show r.val * 32 + g.val = (r.val * 1 + 0) * 32 + g.val; omega)

/-- The row of the scales that a column of the output reads. -/
def sRow (n : Fin 14336) : Fin 112 := ⟨n.val / 128, by omega⟩

theorem ref_y (r : Fin 96) (n : Fin 14336) :
    Cert.ReferenceIdeal.Value.G5 (F := Ideal) a0 a1 a2 a3 a4 (ix3 r 0 n)
      = glu (dotS (fun g k => codeOf (grp a0 r g) k) (fun g k => a1 (ix2 n (rCol g k))) (fun g => scaleOf (grp a0 r g)) (fun g => a2 (ix2 (sRow n) g)))
          (dotS (fun g k => codeOf (grp a0 r g) k) (fun g k => a3 (ix2 n (rCol g k))) (fun g => scaleOf (grp a0 r g)) (fun g => a4 (ix2 (sRow n) g))) := by
  unfold Cert.ReferenceIdeal.Value.G5
  have h8 := ref_pay8 a0 a1 a2 a3 a4 r
  have h9 := ref_pay9 a0 a1 a2 a3 a4 r
  generalize Cert.ReferenceIdeal.Gen.k0_pay8 (F := Ideal) a0 a1 a2 a3 a4 = v39 at *
  generalize Cert.ReferenceIdeal.Gen.k0_pay9 (F := Ideal) a0 a1 a2 a3 a4 = v40 at *
  unfold glu dotS
  simp only [← h8, ← h9]
  unfold Cert.ReferenceIdeal.Gen.k0_pay5
  pointwise
  rfl
end

end Cert.KernelIdeal.Hand
end
-- ==== Proof.Arrays.lean ====
/- The three arrays the kernel writes, after its last grid point, and the results the program returns. -/
module

public import proofs.«01_k».proof.Proof.Frame
public import Idealize.ShloMosaic.Lib.Pipeline.Value
public import Idealize.ShloMosaic.Lib.Pointwise

@[expose] public section
set_option maxRecDepth 16384
noncomputable section
namespace Cert.KernelIdeal.Hand
open Idealize.ShloMosaic Idealize.ShloMosaic.TcCoe Idealize.ShloMosaic.Tactic
open Idealize.SL.Sem
open Idealize.ShloMosaic.Pipeline (Dat)
open Cert.KernelIdeal Cert.KernelIdeal.Gen
variable {F : FTy → Type} [FloatOps F]
variable (m : (ℓ : Loc nD τ sig) → Buf (Elt F) ℓ) (ρ : Dev nD → PrngReg)

theorem idx0_0 : ∀ t : Fin cfg0.N, win0_0.index t (0 : Fin 2) = 0 ∧ win0_0.index t (1 : Fin 2) = 0 := (by decide +kernel : ∀ t : Fin grid0.N, _)
theorem idx0_1 : ∀ t : Fin cfg0.N, win0_1.index t (0 : Fin 2) = t.val ∧ win0_1.index t (1 : Fin 2) = 0 := (by decide +kernel : ∀ t : Fin grid0.N, _)
theorem idx0_2 : ∀ t : Fin cfg0.N, win0_2.index t (0 : Fin 2) = t.val ∧ win0_2.index t (1 : Fin 2) = 0 := (by decide +kernel : ∀ t : Fin grid0.N, _)
theorem idx0_3 : ∀ t : Fin cfg0.N, win0_3.index t (0 : Fin 2) = 0 ∧ win0_3.index t (1 : Fin 2) = 0 := (by decide +kernel : ∀ t : Fin grid0.N, _)
theorem idx0_4 : ∀ t : Fin cfg0.N, win0_4.index t (0 : Fin 2) = 0 ∧ win0_4.index t (1 : Fin 2) = 0 := (by decide +kernel : ∀ t : Fin grid0.N, _)
theorem idx0_5 : ∀ t : Fin cfg0.N, win0_5.index t (0 : Fin 2) = 0 ∧ win0_5.index t (1 : Fin 2) = t.val := (by decide +kernel : ∀ t : Fin grid0.N, _)
theorem idx0_6 : ∀ t : Fin cfg0.N, win0_6.index t (0 : Fin 2) = 0 ∧ win0_6.index t (1 : Fin 2) = 0 := (by decide +kernel : ∀ t : Fin grid0.N, _)
theorem idx0_7 : ∀ t : Fin cfg0.N, win0_7.index t (0 : Fin 2) = 0 ∧ win0_7.index t (1 : Fin 2) = 0 := (by decide +kernel : ∀ t : Fin grid0.N, _)

/-! ## The blocks the body is given -/

/-- The activations as the kernel is entered with them: the argument without its middle axis. -/
theorem V_main_v0 (c : Dev nD) : V m c main_v0 = shapeCast S96x4096 (m ((c : Thread nD τ).loc main_arg0)) shapeCasts_S96x1x4096_S96x4096 := by
  show StableHlo.after hostOps0 _ (Proc.devRef .tc main_v0) = _
  after_results
  rfl

theorem iblk0_apply (c : Dev nD) (t : Fin cfg0.N) (r : Fin 96) (k : Fin 4096) :
    (iblk m c 0 t : Vec F S96x4096 .bf16) (ix2 r k) = (m ((c : Thread nD τ).loc main_arg0) : Vec F S96x1x4096 .bf16) (ix3 r 0 k) := by
  obtain ⟨e0, e1⟩ := idx0_0 t
  have e : ((cfg0.win 0).blk t).view.emb (ix2 r k) = ix2 r k := by
    funext a; apply Fin.ext
    match a with
    | ⟨0, _⟩ => show win0_0.index t (0 : Fin 2) * 96 + 1 * r.val = r.val; omega
    | ⟨1, _⟩ => show win0_0.index t (1 : Fin 2) * 4096 + 1 * k.val = k.val; omega
  show V m c main_v0 (((cfg0.win 0).blk t).view.emb (ix2 r k)) = _
  rw [e, V_main_v0]
  exact shapeCast_apply _ _ (ix2 r k) (ix3 r 0 k) (by rw [Shape.rowMajor_val_two, Shape.rowMajor_val_three]; show (r.val * 1 + 0) * 4096 + k.val = r.val * 4096 + k.val; omega)

/-- A row of the weights from a grid point and a row of its block. -/
def rowT (t : Fin cfg0.N) (n : Fin 512) : Fin 14336 := ⟨512 * t.val + n.val, by have := lt_of_lt_of_eq t.isLt N_0; omega⟩

theorem iblk1_apply (c : Dev nD) (t : Fin cfg0.N) (n : Fin 512) (k : Fin 4096) :
    (iblk m c 1 t : Vec F S512x4096 .fp8e4m3) (ix2 n k) = (m ((c : Thread nD τ).loc main_arg1) : Vec F S14336x4096 .fp8e4m3) (ix2 (rowT t n) k) := by
  obtain ⟨e0, e1⟩ := idx0_1 t
  have e : ((cfg0.win 1).blk t).view.emb (ix2 n k) = ix2 (rowT t n) k := by
    funext a; apply Fin.ext
    match a with
    | ⟨0, _⟩ => show win0_1.index t (0 : Fin 2) * 512 + 1 * n.val = 512 * t.val + n.val; omega
    | ⟨1, _⟩ => show win0_1.index t (1 : Fin 2) * 4096 + 1 * k.val = k.val; omega
  show V m c main_arg1 (((cfg0.win 1).blk t).view.emb (ix2 n k)) = _
  rw [e, V_main_arg1]

theorem iblk2_apply (c : Dev nD) (t : Fin cfg0.N) (n : Fin 512) (k : Fin 4096) :
    (iblk m c 2 t : Vec F S512x4096 .fp8e4m3) (ix2 n k) = (m ((c : Thread nD τ).loc main_arg3) : Vec F S14336x4096 .fp8e4m3) (ix2 (rowT t n) k) := by
  obtain ⟨e0, e1⟩ := idx0_2 t
  have e : ((cfg0.win 2).blk t).view.emb (ix2 n k) = ix2 (rowT t n) k := by
    funext a; apply Fin.ext
    match a with
    | ⟨0, _⟩ => show win0_2.index t (0 : Fin 2) * 512 + 1 * n.val = 512 * t.val + n.val; omega
    | ⟨1, _⟩ => show win0_2.index t (1 : Fin 2) * 4096 + 1 * k.val = k.val; omega
  show V m c main_arg3 (((cfg0.win 2).blk t).view.emb (ix2 n k)) = _
  rw [e, V_main_arg3]

theorem iblk3_apply (c : Dev nD) (t : Fin cfg0.N) (n : Fin 112) (k : Fin 32) :
    (iblk m c 3 t : Vec F S112x32 .f32) (ix2 n k) = (m ((c : Thread nD τ).loc main_arg2) : Vec F S112x32 .f32) (ix2 n k) := by
  obtain ⟨e0, e1⟩ := idx0_3 t
  have e : ((cfg0.win 3).blk t).view.emb (ix2 n k) = ix2 n k := by
    funext a; apply Fin.ext
    match a with
    | ⟨0, _⟩ => show win0_3.index t (0 : Fin 2) * 112 + 1 * n.val = n.val; omega
    | ⟨1, _⟩ => show win0_3.index t (1 : Fin 2) * 32 + 1 * k.val = k.val; omega
  show V m c main_arg2 (((cfg0.win 3).blk t).view.emb (ix2 n k)) = _
  rw [e, V_main_arg2]

theorem iblk4_apply (c : Dev nD) (t : Fin cfg0.N) (n : Fin 112) (k : Fin 32) :
    (iblk m c 4 t : Vec F S112x32 .f32) (ix2 n k) = (m ((c : Thread nD τ).loc main_arg4) : Vec F S112x32 .f32) (ix2 n k) := by
  obtain ⟨e0, e1⟩ := idx0_4 t
  have e : ((cfg0.win 4).blk t).view.emb (ix2 n k) = ix2 n k := by
    funext a; apply Fin.ext
    match a with
    | ⟨0, _⟩ => show win0_4.index t (0 : Fin 2) * 112 + 1 * n.val = n.val; omega
    | ⟨1, _⟩ => show win0_4.index t (1 : Fin 2) * 32 + 1 * k.val = k.val; omega
  show V m c main_arg4 (((cfg0.win 4).blk t).view.emb (ix2 n k)) = _
  rw [e, V_main_arg4]

/-! ## The arrays after the run -/

/-- The point that writes a column of the output. -/
def ptOf (n : Fin 14336) : Fin cfg0.N := ⟨n.val / 512, by show n.val / 512 < grid0.N; rw [N_0]; omega⟩

/-- The output array: each column's block is the one its point leaves. -/
def outY (c : Dev nD) : Vec F S96x14336 .bf16 := fun i =>
  mainAt m c (ptOf (i 1)) (ix2 (i 0 : Fin 96) (⟨(i 1).val % 512, Nat.mod_lt _ (by decide)⟩ : Fin 512))

theorem emb0_5 (t : Fin cfg0.N) (r : Fin 96) (n : Fin 512) : ((cfg0.win 5).blk t).view.emb (ix2 r n) = ix2 r (rowT t n) := by
  obtain ⟨e0, e1⟩ := idx0_5 t
  funext a; apply Fin.ext
  match a with
  | ⟨0, _⟩ => show win0_5.index t (0 : Fin 2) * 96 + 1 * r.val = r.val; omega
  | ⟨1, _⟩ => show win0_5.index t (1 : Fin 2) * 512 + 1 * n.val = 512 * t.val + n.val; omega

theorem outY_apply (c : Dev nD) (t : Fin cfg0.N) (r : Fin 96) (n : Fin 512) : outY m c (ix2 r (rowT t n)) = mainAt m c t (ix2 r n) := by
  have ht : ptOf (rowT t n) = t := Fin.ext (by show (512 * t.val + n.val) / 512 = t.val; omega)
  have hn : (⟨(rowT t n).val % 512, Nat.mod_lt _ (by decide)⟩ : Fin 512) = n := Fin.ext (by show (512 * t.val + n.val) % 512 = n.val; omega)
  show mainAt m c (ptOf (rowT t n)) (ix2 r (⟨(rowT t n).val % 512, _⟩ : Fin 512)) = _
  rw [ht, hn]

theorem ix2_eta {a b : ℕ} (j : (⟨2, ![a, b]⟩ : Shape).Idx) : j = ix2 (j 0 : Fin a) (j 1 : Fin b) := by
  funext d
  match d with
  | ⟨0, _⟩ => rfl
  | ⟨1, _⟩ => rfl

theorem flushed0_5 (c : Dev nD) (t : Fin cfg0.N) : (dats m 0 c).flushed 5 t = ((cfg0.win 5).blk t).view.read (Elt F) (outY m c) := by
  show (cfg0.win 5).cut (grid0.coords t) ((dats m 0 c).after 5 t) = _
  rw [after0_5]
  funext j
  obtain ⟨r, n, rfl⟩ : ∃ (r : Fin 96) (n : Fin 512), j = ix2 r n := ⟨_, _, ix2_eta (a := 96) (b := 512) j⟩
  show mainAt m c t (ix2 r n) = outY m c (((cfg0.win 5).blk t).view.emb (ix2 r n))
  rw [emb0_5, outY_apply]

theorem covered5 (i : S96x14336.Idx) : ∃ t : Fin cfg0.N, (cfg0.win 5).flush t = true ∧ i ∈ ((cfg0.win 5).blk t).view.set := by
  obtain ⟨r, n, rfl⟩ : ∃ (r : Fin 96) (n : Fin 14336), i = ix2 r n := ⟨_, _, ix2_eta (a := 96) (b := 14336) i⟩
  refine ⟨ptOf n, flush0_5 _, ?_⟩
  have h := ((cfg0.win 5).blk (ptOf n)).view.emb_mem_set (ix2 r (⟨n.val % 512, Nat.mod_lt _ (by decide)⟩ : Fin 512))
  have e : rowT (ptOf n) ⟨n.val % 512, Nat.mod_lt _ (by decide)⟩ = n := Fin.ext (by show 512 * (n.val / 512) + n.val % 512 = n.val; omega)
  rwa [emb0_5, e] at h

theorem final5 (c : Dev nD) : (dats m 0 c).arrAt 5 cfg0.N = outY m c :=
  (dats m 0 c).arrAt_eq_of_cover 5 (outY m c) (fun t _ => flushed0_5 m c t) covered5

/-- The last point, the one that writes the codes and the scales back. -/
def tL : Fin cfg0.N := ⟨27, by show 27 < grid0.N; rw [N_0]; decide⟩

theorem emb0_6 (t : Fin cfg0.N) (j : S96x4096.Idx) : ((cfg0.win 6).blk t).view.emb j = j := by
  obtain ⟨e0, e1⟩ := idx0_6 t
  funext a; apply Fin.ext
  match a with
  | ⟨0, _⟩ => show win0_6.index t (0 : Fin 2) * 96 + 1 * (j 0).val = (j 0).val; omega
  | ⟨1, _⟩ => show win0_6.index t (1 : Fin 2) * 4096 + 1 * (j 1).val = (j 1).val; omega

theorem final6 (c : Dev nD) : (dats m 0 c).arrAt 6 cfg0.N = codesAt m c :=
  (dats m 0 c).arrAt_eq_of_cover 6 (codesAt m c) (fun t _ => by
      show (cfg0.win 6).cut (grid0.coords t) ((dats m 0 c).after 6 t) = _
      rw [after0_6]
      funext j
      show codesAt m c j = codesAt m c (((cfg0.win 6).blk t).view.emb j)
      rw [emb0_6])
    fun i => ⟨tL, (flush0_6 tL).mpr rfl, by have h := ((cfg0.win 6).blk tL).view.emb_mem_set i; rwa [emb0_6] at h⟩

theorem emb0_7 (t : Fin cfg0.N) (j : S96x32.Idx) : ((cfg0.win 7).blk t).view.emb j = j := by
  obtain ⟨e0, e1⟩ := idx0_7 t
  funext a; apply Fin.ext
  match a with
  | ⟨0, _⟩ => show win0_7.index t (0 : Fin 2) * 96 + 1 * (j 0).val = (j 0).val; omega
  | ⟨1, _⟩ => show win0_7.index t (1 : Fin 2) * 32 + 1 * (j 1).val = (j 1).val; omega

theorem final7 (c : Dev nD) : (dats m 0 c).arrAt 7 cfg0.N = scalesAt m c :=
  (dats m 0 c).arrAt_eq_of_cover 7 (scalesAt m c) (fun t _ => by
      show (cfg0.win 7).cut (grid0.coords t) ((dats m 0 c).after 7 t) = _
      rw [after0_7]
      funext j
      show scalesAt m c j = scalesAt m c (((cfg0.win 7).blk t).view.emb j)
      rw [emb0_7])
    fun i => ⟨tL, (flush0_7 tL).mpr rfl, by have h := ((cfg0.win 7).blk tL).view.emb_mem_set i; rwa [emb0_7] at h⟩

/-! ## The results: the arrays with the middle axis put back -/

theorem tail_v2 (c : Dev nD) : Pipeline.afterTail₀ cfgs (dats m) 0 (V0 m) [hostOps1] c main_v2
    = shapeCast S96x1x14336 (outY m c) shapeCasts_S96x14336_S96x1x14336 := by
  rw [← final5 m c]
  unfold Pipeline.afterTail₀
  show StableHlo.after hostOps1 _ (Proc.devRef .tc main_v2) = _
  after_results
  exact congrArg (fun z => shapeCast S96x1x14336 z shapeCasts_S96x14336_S96x1x14336)
    (Pipeline.withArrays_arr spec0 launch0.win.arr_inj c (V0 m c) (fun w => (dats m 0 c).arrAt w cfg0.N) 5)

theorem tail_v3 (c : Dev nD) : Pipeline.afterTail₀ cfgs (dats m) 0 (V0 m) [hostOps1] c main_v3
    = shapeCast S96x1x4096 (codesAt m c) shapeCasts_S96x4096_S96x1x4096 := by
  rw [← final6 m c]
  unfold Pipeline.afterTail₀
  show StableHlo.after hostOps1 _ (Proc.devRef .tc main_v3) = _
  after_results
  exact congrArg (fun z => shapeCast S96x1x4096 z shapeCasts_S96x4096_S96x1x4096)
    (Pipeline.withArrays_arr spec0 launch0.win.arr_inj c (V0 m c) (fun w => (dats m 0 c).arrAt w cfg0.N) 6)

theorem tail_v4 (c : Dev nD) : Pipeline.afterTail₀ cfgs (dats m) 0 (V0 m) [hostOps1] c main_v4
    = shapeCast S96x1x32 (scalesAt m c) shapeCasts_S96x32_S96x1x32 := by
  rw [← final7 m c]
  unfold Pipeline.afterTail₀
  show StableHlo.after hostOps1 _ (Proc.devRef .tc main_v4) = _
  after_results
  exact congrArg (fun z => shapeCast S96x1x32 z shapeCasts_S96x32_S96x1x32)
    (Pipeline.withArrays_arr spec0 launch0.win.arr_inj c (V0 m c) (fun w => (dats m 0 c).arrAt w cfg0.N) 7)

/-- The run: the three results named, the arguments unchanged. -/
theorem run_values : θ_run defs (onTc (τ := τ) (Cert.KernelIdeal.main (F := F))) ⟨m, fun _ => 0, ρ⟩ (fun r => ∀ c : Dev nD,
      r.2.mem ((c.tc : Thread nD τ).loc main_v2) = shapeCast S96x1x14336 (outY m c) shapeCasts_S96x14336_S96x1x14336
      ∧ r.2.mem ((c.tc : Thread nD τ).loc main_v3) = shapeCast S96x1x4096 (codesAt m c) shapeCasts_S96x4096_S96x1x4096
      ∧ r.2.mem ((c.tc : Thread nD τ).loc main_v4) = shapeCast S96x1x32 (scalesAt m c) shapeCasts_S96x32_S96x1x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v2 (Pipeline.mem_restRefs_of main_v2 (by decide) (by decide))).trans (tail_v2 m c),
      ((h.1 c).2 main_v3 (Pipeline.mem_restRefs_of main_v3 (by decide) (by decide))).trans (tail_v3 m c),
      ((h.1 c).2 main_v4 (Pipeline.mem_restRefs_of main_v4 (by decide) (by decide))).trans (tail_v4 m c), h.2 c⟩)
    (θ_run_and (run_main m ρ) (frame_of m ρ (dats m) (A_eq m) (run_main m ρ)))

end Cert.KernelIdeal.Hand
end
-- ==== Proof.Join.lean ====
/- The kernel's three results are the reference's, for activations in range. -/
module

public import proofs.«01_k».proof.Proof.Ref
public import proofs.«01_k».proof.Proof.Arrays

@[expose] public section
set_option maxRecDepth 16384
noncomputable section
namespace Cert.KernelIdeal.Hand
open Idealize.ShloMosaic Idealize.ShloMosaic.TcCoe Idealize.ShloMosaic.Tactic
open Cert.KernelIdeal Cert.KernelIdeal.Gen
variable (m : (ℓ : Loc nD τ sig) → Buf (Elt Ideal) ℓ) (c : Dev nD)

abbrev A0 : Vec Ideal S96x1x4096 .bf16 := m ((c : Thread nD τ).loc main_arg0)
abbrev A1 : Vec Ideal S14336x4096 .fp8e4m3 := m ((c : Thread nD τ).loc main_arg1)
abbrev A2 : Vec Ideal S112x32 .f32 := m ((c : Thread nD τ).loc main_arg2)
abbrev A3 : Vec Ideal S14336x4096 .fp8e4m3 := m ((c : Thread nD τ).loc main_arg3)
abbrev A4 : Vec Ideal S112x32 .f32 := m ((c : Thread nD τ).loc main_arg4)

theorem col_eq (g : Fin 32) (k : Fin 128) : colOf g k = rCol g k := Fin.ext (by show 128 * g.val + k.val = g.val * 128 + k.val; omega)

/-- Group `g` of the activations, as the first grid point reads it. -/
abbrev tl (g : Fin 32) : Vec Ideal S96x128 .bf16 := tile (iblk m c 0 t0) g

theorem tl_apply (g : Fin 32) (r : Fin 96) (k : Fin 128) : tl m c g (ix2 r k) = grp (A0 m c) r g k := by
  rw [tl, tile_apply, iblk0_apply, col_eq]; rfl

section
variable (hrange : ∀ r g, InRange (grp (A0 m c) r g))
include hrange

theorem scale_val (r : Fin 96) (g : Fin 32) : scaleV (tl m c g) (ix2 r 0) = scaleOf (grp (A0 m c) r g) := by
  have e : (fun k => tl m c g (ix2 r k)) = grp (A0 m c) r g := funext fun k => tl_apply m c g r k
  rw [scale_same (tl m c g) r (by rw [e]; exact hrange r g), e]; rfl

theorem code_val (r : Fin 96) (g : Fin 32) (k : Fin 128) : codeV (tl m c g) (ix2 r k) = codeOf (grp (A0 m c) r g) k := by
  have e : (fun k => tl m c g (ix2 r k)) = grp (A0 m c) r g := funext fun k => tl_apply m c g r k
  rw [code_same (tl m c g) r k (by rw [e]; exact hrange r g), e, tl_apply]; rfl

theorem codes_eq : shapeCast S96x1x4096 (codesAt m c) shapeCasts_S96x4096_S96x1x4096
    = Cert.ReferenceIdeal.Value.G6 (F := Ideal) (A0 m c) (A1 m c) (A2 m c) (A3 m c) (A4 m c) := by
  funext i
  obtain ⟨r, g, k, rfl⟩ : ∃ (r : Fin 96) (g : Fin 32) (k : Fin 128), i = ix3 r 0 (rCol g k) := by
    have l1 : (i 1).val < 1 := (i 1).isLt
    have l2 : (i 2).val < 4096 := (i 2).isLt
    refine ⟨(i 0 : Fin 96), ⟨(i 2).val / 128, by omega⟩, ⟨(i 2).val % 128, Nat.mod_lt _ (by decide)⟩, ?_⟩
    funext d; apply Fin.ext
    match d with
    | ⟨0, _⟩ => rfl
    | ⟨1, _⟩ => show (i 1).val = 0; omega
    | ⟨2, _⟩ => show (i 2).val = (i 2).val / 128 * 128 + (i 2).val % 128; omega
  rw [ref_codes, ← code_val m c hrange]
  refine (shapeCast_apply _ _ (ix3 r 0 (rCol g k)) (ix2 r (colOf g k)) (by
    rw [Shape.rowMajor_val_two, Shape.rowMajor_val_three]
    show r.val * 4096 + (128 * g.val + k.val) = (r.val * 1 + 0) * 4096 + (g.val * 128 + k.val); omega)).trans ?_
  exact codesOut_apply ..

theorem scales_eq : shapeCast S96x1x32 (scalesAt m c) shapeCasts_S96x32_S96x1x32
    = Cert.ReferenceIdeal.Value.G7 (F := Ideal) (A0 m c) (A1 m c) (A2 m c) (A3 m c) (A4 m c) := by
  funext i
  obtain ⟨r, g, rfl⟩ : ∃ (r : Fin 96) (g : Fin 32), i = ix3 r 0 g := by
    have l1 : (i 1).val < 1 := (i 1).isLt
    refine ⟨(i 0 : Fin 96), (i 2 : Fin 32), ?_⟩
    funext d; apply Fin.ext
    match d with
    | ⟨0, _⟩ => rfl
    | ⟨1, _⟩ => show (i 1).val = 0; omega
    | ⟨2, _⟩ => rfl
  rw [ref_scales, ← scale_val m c hrange]
  refine (shapeCast_apply _ _ (ix3 r 0 g) (ix2 r g) (by
    rw [Shape.rowMajor_val_two, Shape.rowMajor_val_three]
    show r.val * 32 + g.val = (r.val * 1 + 0) * 32 + g.val; omega)).trans ?_
  exact scalesOut_apply ..

theorem y_eq : shapeCast S96x1x14336 (outY m c) shapeCasts_S96x14336_S96x1x14336
    = Cert.ReferenceIdeal.Value.G5 (F := Ideal) (A0 m c) (A1 m c) (A2 m c) (A3 m c) (A4 m c) := by
  funext i
  obtain ⟨q, t, r, b, j, rfl⟩ : ∃ (q : Fin 96) (t : Fin cfg0.N) (r b : Fin 2) (j : Fin 128), i = ix3 q 0 (rowT t (nOf r (kOf b j))) := by
    have l1 : (i 1).val < 1 := (i 1).isLt
    have l2 : (i 2).val < 14336 := (i 2).isLt
    refine ⟨(i 0 : Fin 96), ptOf (i 2 : Fin 14336), ⟨(i 2).val % 512 / 256, by omega⟩, ⟨(i 2).val % 256 / 128, by omega⟩, ⟨(i 2).val % 128, Nat.mod_lt _ (by decide)⟩, ?_⟩
    funext d; apply Fin.ext
    match d with
    | ⟨0, _⟩ => rfl
    | ⟨1, _⟩ => show (i 1).val = 0; omega
    | ⟨2, _⟩ => show (i 2).val = 512 * ((i 2).val / 512) + (256 * ((i 2).val % 512 / 256) + (128 * ((i 2).val % 256 / 128) + (i 2).val % 128)); omega
  refine (shapeCast_apply _ _ (ix3 q 0 (rowT t (nOf r (kOf b j)))) (ix2 q (rowT t (nOf r (kOf b j)))) (by
    rw [Shape.rowMajor_val_two, Shape.rowMajor_val_three]
    show q.val * 14336 + (rowT t (nOf r (kOf b j))).val = (q.val * 1 + 0) * 14336 + (rowT t (nOf r (kOf b j))).val; omega)).trans ?_
  rw [outY_apply, ref_y]
  have hL : ∀ p a b r k, lhsAt m c (ix3 p (rowOf a r) (kOf b k)) = lhsT (tl m c) p a b (ix3 0 r k) := fun p a b r k => lhsOut_apply ..
  have hX : ∀ g r k, xsAt m c (ix3 g r k) = scaleV (tl m c g) (ix2 r 0) := fun g r k => (xsOut_apply ..).trans (pay14_apply ..)
  unfold mainAt
  generalize lhsAt m c = L at *
  generalize xsAt m c = X at *
  rw [main_value (T := tl m c) (hL := hL) (hX := hX)]
  have hs : (⟨rowAt (grid0.coords t) r b, rowAt_lt (grid0.coords t) r b⟩ : Fin 112) = sRow (rowT t (nOf r (kOf b j))) :=
    Fin.ext (by
      show rowAt (grid0.coords t) r b = (512 * t.val + (256 * r.val + (128 * b.val + j.val))) / 128
      rw [rowAt_val t r b]; omega)
  simp only [code_val m c hrange, scale_val m c hrange, iblk1_apply, iblk2_apply, iblk3_apply, iblk4_apply, hs, col_eq]

end

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value

public import proofs.«01_k».proof.Proof.Frame
public import proofs.«01_k».proof.Proof.KFrame
public import proofs.«01_k».proof.Proof.Join
public import Idealize.ShloMosaic.Adequacy
public import Idealize.ShloMosaic.Init

@[expose] public section

noncomputable section

namespace Cert.Proof

open Idealize.ShloMosaic Idealize.SL.Sem Cert.Kernel

/-- The precondition's side conditions. -/
instance preFacts : Cert.Pre_activations_in_range.Facts where
  bitsLt_bf16_f32 := by decide
  shapeCasts_S96x1x4096_S96x32x128 := by decide
  reducesTo_S96x32x128_S96x32_d2 := by decide
  h_S_ := by decide
  bcast_S_S96x32 := by decide

open Cert.KernelIdeal.Hand in
/-- The precondition puts every group of activations in range. -/
theorem range_of_pre (a0 : Vec Ideal Cert.KernelIdeal.S96x1x4096 .bf16) (a1 : Vec Ideal Cert.KernelIdeal.S14336x4096 .fp8e4m3)
    (a2 : Vec Ideal Cert.KernelIdeal.S112x32 .f32) (a3 : Vec Ideal Cert.KernelIdeal.S14336x4096 .fp8e4m3) (a4 : Vec Ideal Cert.KernelIdeal.S112x32 .f32)
    (h : Cert.Pre_activations_in_range.fn (F := Ideal) a0 a1 a2 a3 a4 = fun _ => 1#1) (r : Fin 96) (g : Fin 32) :
    InRange (grp a0 r g) := by
  have h1 := congrFun h (ix2 r g)
  unfold Cert.Pre_activations_in_range.fn at h1
  pointwise at h1
  have h2 : ∀ p q s : Bool, IntOp.ori (BitVec.ofBool p) (IntOp.andi (BitVec.ofBool q) (BitVec.ofBool s)) = 1#1 →
      p = true ∨ q = true ∧ s = true := by decide
  have h3 := h2 _ _ _ h1
  simp only [decide_eq_true_eq] at h3
  exact h3

/-- The kernel's three results are the reference's. -/
theorem algebraic : Cert.algebraic_KernelIdeal_ReferenceIdeal_pre_activations_in_range
    (hKernelIdeal := Cert.KernelIdeal.Gen.facts) (hReferenceIdeal := Cert.ReferenceIdeal.Gen.facts) := by
  intro m g m' g' hp ha
  refine ⟨_, _, _, Cert.KernelIdeal.Hand.run_values m g,
    (θ_run _ _ _).mono (fun r h c => ?_) (Cert.ReferenceIdeal.Value.run m' g')⟩
  · obtain ⟨h0, h1, h2, h3⟩ := h c
    obtain ⟨e0, e1, e2, e3, e4⟩ := ha c
    have hf := range_of_pre _ _ _ _ _ (hp c)
    rw [e0, e1, e2, e3, e4] at h0 h1 h2
    exact ⟨h0.trans (Cert.KernelIdeal.Hand.y_eq m c hf).symm, h1.trans (Cert.KernelIdeal.Hand.codes_eq m c hf).symm,
      h2.trans (Cert.KernelIdeal.Hand.scales_eq m c hf).symm, h3⟩

theorem claim : Cert.Claim := ⟨Cert.Kernel.Gen.facts, Cert.KernelIdeal.Gen.facts, Cert.ReferenceIdeal.Gen.facts, preFacts, by
  exact ⟨fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ, trivial, algebraic⟩⟩

end Cert.Proof

end
